-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 2]⟩ ⟨2, ![1024, 2]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S256x2 : S_.BroadcastsInDim S256x2 (![] : Fin 0 → Fin S256x2.rank)

variable [Facts]

def fn {F : FTy → Type} [FloatOps F] (main_arg0 : FVec F S256x128 .f32) (main_arg1 : FVec F S128x8 .f32) (main_arg2 : IVec S256x2 32) (main_arg3 : FVec F S2x128x256 .f32) : IVec S256x2 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_c_2 : IVec S_ 32 := constantI S_ 32 0#32
  let main_v9 : IVec S256x2 32 := broadcastInDim S256x2 ![] bcast_S_S256x2 main_c_2
  let main_v10 : IVec S256x2 1 := cmpi .sge main_arg2 main_v9
  let main_c_3 : IVec S_ 32 := constantI S_ 32 8#32
  let main_v11 : IVec S256x2 32 := broadcastInDim S256x2 ![] bcast_S_S256x2 main_c_3
  let main_v12 : IVec S256x2 1 := cmpi .slt main_arg2 main_v11
  let main_v13 : IVec S256x2 1 := andi main_v10 main_v12
  let main_v14 : IVec S256x2 1 := broadcastInDim S256x2 ![] bcast_S_S256x2 main_v8
  let main_v15 : IVec S256x2 1 := andi main_v13 main_v14
  main_v15
-- ==== Pre_routed_ReferenceIdeal.lean ====
abbrev S1024x128 : Shape := ⟨2, ![1024, 128]⟩
abbrev S128x8 : Shape := ⟨2, ![128, 8]⟩
abbrev S1024x2 : Shape := ⟨2, ![1024, 2]⟩
abbrev S8x128x256 : Shape := ⟨3, ![8, 128, 256]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S1024x2 : S_.BroadcastsInDim S1024x2 (![] : Fin 0 → Fin S1024x2.rank)

variable [Facts]

def fn {F : FTy → Type} [FloatOps F] (main_arg0 : FVec F S1024x128 .f32) (main_arg1 : FVec F S128x8 .f32) (main_arg2 : IVec S1024x2 32) (main_arg3 : FVec F S8x128x256 .f32) : IVec S1024x2 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_c_2 : IVec S_ 32 := constantI S_ 32 0#32
  let main_v9 : IVec S1024x2 32 := broadcastInDim S1024x2 ![] bcast_S_S1024x2 main_c_2
  let main_v10 : IVec S1024x2 1 := cmpi .sge main_arg2 main_v9
  let main_c_3 : IVec S_ 32 := constantI S_ 32 8#32
  let main_v11 : IVec S1024x2 32 := broadcastInDim S1024x2 ![] bcast_S_S1024x2 main_c_3
  let main_v12 : IVec S1024x2 1 := cmpi .slt main_arg2 main_v11
  let main_v13 : IVec S1024x2 1 := andi main_v10 main_v12
  let main_v14 : IVec S1024x2 1 := broadcastInDim S1024x2 ![] bcast_S_S1024x2 main_v8
  let main_v15 : IVec S1024x2 1 := andi main_v13 main_v14
  main_v15
-- ==== Kernel.lean ====
abbrev S256x128 : Shape := ⟨2, ![256, 128]⟩
abbrev S128x8 : Shape := ⟨2, ![128, 8]⟩
abbrev S256x2 : Shape := ⟨2, ![256, 2]⟩
abbrev S2x128x256 : Shape := ⟨3, ![2, 128, 256]⟩
abbrev S256x256 : Shape := ⟨2, ![256, 256]⟩
abbrev S4x2x128x256 : Shape := ⟨4, ![4, 2, 128, 256]⟩
abbrev S4 : Shape := ⟨1, ![4]⟩
abbrev S1x2x128x256 : Shape := ⟨4, ![1, 2, 128, 256]⟩
abbrev S_ : Shape := ⟨0, ![]⟩
abbrev S1 : Shape := ⟨1, ![1]⟩
abbrev S256x8 : Shape := ⟨2, ![256, 8]⟩
abbrev S256 : Shape := ⟨1, ![256]⟩
abbrev S256x1 : Shape := ⟨2, ![256, 1]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x2, .i32⟩
  | .hbm, ⟨3, _⟩ => ⟨S2x128x256, .f32⟩
  | .hbm, ⟨4, _⟩ => ⟨S256x256, .f32⟩
  | .local _ .vmem, ⟨0, _⟩ => ⟨S256x128, .f32⟩
  | .local _ .vmem, ⟨1, _⟩ => ⟨S128x8, .f32⟩
  | .local _ .vmem, ⟨2, _⟩ => ⟨S256x2, .i32⟩
  | .local _ .vmem, ⟨3, _⟩ => ⟨S2x128x256, .f32⟩
  | .local _ .vmem, ⟨4, _⟩ => ⟨S256x256, .f32⟩
  | .local _ .vmem, ⟨5, _⟩ => ⟨S4x2x128x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : Index := Scalar.indexCast v2
  let c0_2 : Index := 0#32
  let c0_3 : Index := 0#32
  let c0_4 : Index := 0#32
  ![v6.toNat, 0, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v11 : BitVec 32 := Scalar.addi v2 c1_i32_5
  let c4_i32_6 : BitVec 32 := 4#32
  let v12 : BitVec 32 := Scalar.remsi v11 c4_i32_6
  let c1_i32_8 : BitVec 32 := 1#32
  let v13 : BitVec 32 := Scalar.muli v12 c1_i32_8
  let v14 : BitVec 32 := Scalar.addi c0_i32 v13
  v14.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v15 : BitVec 32 := Scalar.addi v2 c2_i32
  let c4_i32_9 : BitVec 32 := 4#32
  let v16 : BitVec 32 := Scalar.remsi v15 c4_i32_9
  let c1_i32_11 : BitVec 32 := 1#32
  let v17 : BitVec 32 := Scalar.muli v16 c1_i32_11
  let v18 : BitVec 32 := Scalar.addi c0_i32_12 v17
  v18.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v19 : BitVec 32 := Scalar.addi v2 c3_i32
  let c4_i32_13 : BitVec 32 := 4#32
  let v20 : BitVec 32 := Scalar.remsi v19 c4_i32_13
  let c1_i32_15 : BitVec 32 := 1#32
  let v21 : BitVec 32 := Scalar.muli v20 c1_i32_15
  let v22 : BitVec 32 := Scalar.addi c0_i32_16 v21
  v22.toNat
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_23 : BitVec 32 := 0#32
  let c0_i32_24 : BitVec 32 := 0#32
  let c0_i32_25 : BitVec 32 := 0#32
  ![v2.toNat, 0, 0, 0]
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v23 : BitVec 32 := Scalar.addi v2 c1_i32_18
  let c4_i32_19 : BitVec 32 := 4#32
  let v24 : BitVec 32 := Scalar.remsi v23 c4_i32_19
  let c1_i32_21 : BitVec 32 := 1#32
  let v25 : BitVec 32 := Scalar.muli v24 c1_i32_21
  let v26 : BitVec 32 := Scalar.addi c0_i32_22 v25
  v26.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_29 : BitVec 32 := 2#32
  let v35 : BitVec 32 := Scalar.addi v2 c2_i32_29
  let c4_i32_30 : BitVec 32 := 4#32
  let v36 : BitVec 32 := Scalar.remsi v35 c4_i32_30
  let c1_i32_32 : BitVec 32 := 1#32
  let v37 : BitVec 32 := Scalar.muli v36 c1_i32_32
  let v38 : BitVec 32 := Scalar.addi c0_i32_33 v37
  v38.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_40 : BitVec 32 := 3#32
  let v47 : BitVec 32 := Scalar.addi v2 c3_i32_40
  let c4_i32_41 : BitVec 32 := 4#32
  let v48 : BitVec 32 := Scalar.remsi v47 c4_i32_41
  let c1_i32_43 : BitVec 32 := 1#32
  let v49 : BitVec 32 := Scalar.muli v48 c1_i32_43
  let v50 : BitVec 32 := Scalar.addi c0_i32_44 v49
  v50.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x128 : Shape := ⟨2, ![1024, 128]⟩
abbrev S128x8 : Shape := ⟨2, ![128, 8]⟩
abbrev S1024x2 : Shape := ⟨2, ![1024, 2]⟩
abbrev S8x128x256 : Shape := ⟨3, ![8, 128, 256]⟩
abbrev S1024x8 : Shape := ⟨2, ![1024, 8]⟩
abbrev S_ : Shape := ⟨0, ![]⟩
abbrev S1024 : Shape := ⟨1, ![1024]⟩
abbrev S1024x1 : Shape := ⟨2, ![1024, 1]⟩
abbrev S1024x128x256 : Shape := ⟨3, ![1024, 128, 256]⟩
abbrev S1024x256 : Shape := ⟨2, ![1024, 256]⟩

abbrev nBuf : Space → Nat
  | .hbm => 87
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x8, .f32⟩
  | .hbm, ⟨2, _⟩ => ⟨S1024x2, .i32⟩
  | .hbm, ⟨3, _⟩ => ⟨S8x128x256, .f32⟩
  | .hbm, ⟨4, _⟩ => ⟨S1024x8, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x8, .f32⟩
  | .hbm, ⟨9, _⟩ => ⟨S1024x8, .f32⟩
  | .hbm, ⟨10, _⟩ => ⟨S1024x8, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x8, .f32⟩
  | .hbm, ⟨15, _⟩ => ⟨S1024x8, .f32⟩
  | .hbm, ⟨16, _⟩ => ⟨S1024x1, .i32⟩
  | .hbm, ⟨17, _⟩ => ⟨S1024, .i32⟩
  | .hbm, ⟨18, _⟩ => ⟨S1024x1, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x1, .i32⟩
  | .hbm, ⟨37, _⟩ => ⟨S1024x2, .i32⟩
  | .hbm, ⟨38, _⟩ => ⟨S1024, .f32⟩
  | .hbm, ⟨39, _⟩ => ⟨S1024x1, .f32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1024x1, .i32⟩
  | .hbm, ⟨56, _⟩ => ⟨S1024x2, .i32⟩
  | .hbm, ⟨57, _⟩ => ⟨S1024, .f32⟩
  | .hbm, ⟨58, _⟩ => ⟨S1024x1, .f32⟩
  | .hbm, ⟨59, _⟩ => ⟨S1024x1, .f32⟩
  | .hbm, ⟨60, _⟩ => ⟨S_, .i32⟩
  | .hbm, ⟨61, _⟩ => ⟨S1024, .i32⟩
  | .hbm, ⟨62, _⟩ => ⟨S1024, .i1⟩
  | .hbm, ⟨63, _⟩ => ⟨S_, .i32⟩
  | .hbm, ⟨64, _⟩ => ⟨S1024, .i32⟩
  | .hbm, ⟨65, _⟩ => ⟨S1024, .i32⟩
  | .hbm, ⟨66, _⟩ => ⟨S1024, .i32⟩
  | .hbm, ⟨67, _⟩ => ⟨S1024x1, .i32⟩
  | .hbm, ⟨68, _⟩ => ⟨S1024x128x256, .f32⟩
  | .hbm, ⟨69, _⟩ => ⟨S1024x256, .f32⟩
  | .hbm, ⟨70, _⟩ => ⟨S_, .i32⟩
  | .hbm, ⟨71, _⟩ => ⟨S1024, .i32⟩
  | .hbm, ⟨72, _⟩ => ⟨S1024, .i1⟩
  | .hbm, ⟨73, _⟩ => ⟨S_, .i32⟩
  | .hbm, ⟨74, _⟩ => ⟨S1024, .i32⟩
  | .hbm, ⟨75, _⟩ => ⟨S1024, .i32⟩
  | .hbm, ⟨76, _⟩ => ⟨S1024, .i32⟩
  | .hbm, ⟨77, _⟩ => ⟨S1024x1, .i32⟩
  | .hbm, ⟨78, _⟩ => ⟨S1024x128x256, .f32⟩
  | .hbm, ⟨79, _⟩ => ⟨S1024x256, .f32⟩
  | .hbm, ⟨80, _⟩ => ⟨S1024x1, .f32⟩
  | .hbm, ⟨81, _⟩ => ⟨S1024x256, .f32⟩
  | .hbm, ⟨82, _⟩ => ⟨S1024x256, .f32⟩
  | .hbm, ⟨83, _⟩ => ⟨S1024x1, .f32⟩
  | .hbm, ⟨84, _⟩ => ⟨S1024x256, .f32⟩
  | .hbm, ⟨85, _⟩ => ⟨S1024x256, .f32⟩
  | .hbm, ⟨86, _⟩ => ⟨S1024x256, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Protocol.lean ====
/-
# The exchange protocol of the expert-parallel kernel

Each of the four devices keeps the bf16 weights of its own two experts in slot `my` of its buffer of four
slots, tells the three other devices that it is in the kernel, waits until they have told it the same, and
copies its slot into the same slot of each of them. This module states the resources of that exchange: the
slots, the semaphores, who hands what to whom (the schedule of the rounds library), what every device owes
at launch, and the levels that order the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's ghost state beside the exchange's, a duty named by a device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The three other devices -/

/-- The device `k` places after `c` in the cyclic order. -/
abbrev peer (c : Dev nD) (k : Fin 4) : Dev nD := (show Fin 4 from c) + k

theorem peer_ne (c : Dev nD) : peer c 1 ≠ c ∧ peer c 2 ≠ c ∧ peer c 3 ≠ c := by revert c; decide

theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 1 := Fin.ext (k0_dev4_eq c)
theorem dev5_eq (c : Dev nD) : (⟨k0_dev5 c, k0_dev5_lt c⟩ : Dev nD) = peer c 2 := Fin.ext (k0_dev5_eq c)
theorem dev6_eq (c : Dev nD) : (⟨k0_dev6 c, k0_dev6_lt c⟩ : Dev nD) = peer c 3 := Fin.ext (k0_dev6_eq c)

/-! ## The semaphores -/

/-- The launch's barrier semaphore, not scoped to the kernel. -/
abbrev barS : Sem sig := (SemArray.scalar (sig.barrier 0 rfl) : Sems sig S_).sem
/-- `send_sems[k]`: what the copy to the device `k` places on signals here once its source is read. -/
def sendS (k : Fin 4) : DmaSem sig := ⟨5 + k.val, by have := k.isLt; show 5 + k.val < 13; omega⟩
/-- `recv_sems[o]`: what the copy from device `o` signals once it has landed. -/
def recvS (o : Fin 4) : DmaSem sig := ⟨9 + o.val, by have := o.isLt; show 9 + o.val < 13; omega⟩

theorem inb_one (k : Fin 4) : ∀ a, (![k.val] : Fin 1 → Nat) a + S1.size a ≤ S4.size a := by revert k; decide

theorem send_sem (k : Fin 4) (h : ∀ a, (![k.val] : Fin 1 → Nat) a + S1.size a ≤ S4.size a) :
    ((cc0_scratch1.slice (Rect.unit (s := S4) ![k.val] S1.size h)).squeeze S_ squeezes_S1_S_).sem = sendS k := by
  revert k; decide +kernel
theorem recv_sem (k : Fin 4) (h : ∀ a, (![k.val] : Fin 1 → Nat) a + S1.size a ≤ S4.size a) :
    ((cc0_scratch2.slice (Rect.unit (s := S4) ![k.val] S1.size h)).squeeze S_ squeezes_S1_S_).sem = recvS k := by
  revert k; decide +kernel

abbrev barCell (c : Dev nD) : GSem nD τ sig := ((c : Thread nD τ), .reg barS)
abbrev sendCell (c : Dev nD) (k : Fin 4) : GSem nD τ sig := ((c : Thread nD τ), .dma (sendS k))
abbrev recvCell (c : Dev nD) (o : Fin 4) : GSem nD τ sig := ((c : Thread nD τ), .dma (recvS o))

/-- What a semaphore is for. -/
inductive Role where
  | bar
  | send (k : Fin 4)
  | recv (o : Fin 4)
  | other
deriving DecidableEq

/-- The use of each semaphore of a TensorCore; the first five of the transfer pool stage the operands. -/
def role : SemLoc sig → Role
  | .reg s => if s = barS then .bar else .other
  | .dma q => if q.val < 5 then .other else if h : q.val - 5 < 4 then .send ⟨q.val - 5, h⟩ else if h : q.val - 9 < 4 then .recv ⟨q.val - 9, h⟩ else .other

theorem role_bar : role (.reg barS) = .bar := by decide
theorem role_send (k : Fin 4) : role (.dma (sendS k)) = .send k := by revert k; decide
theorem role_recv (o : Fin 4) : role (.dma (recvS o)) = .recv o := by revert o; decide

/-! ## The slots of the exchanged buffer -/

theorem inb_slot (o : Fin 4) : ∀ a, (![o.val, 0, 0, 0] : Fin 4 → Nat) a + S1x2x128x256.size a ≤ S4x2x128x256.size a := by revert o; decide

/-- Slot `o`'s rectangle of the buffer, the one a load or store of slot `o` names. -/
abbrev slotR (o : Fin 4) : Rect S4x2x128x256 := Rect.unit (s := S4x2x128x256) ![o.val, 0, 0, 0] S1x2x128x256.size (inb_slot o)
/-- The buffer of four slots, -/
abbrev commM : Memref sig .tc .vmem S4x2x128x256 .bf16 := Memref.whole cc0_scratch0
/-- and slot `o` of it, the one a copy names. -/
abbrev slotM (o : Fin 4) : Memref sig .tc .vmem S2x128x256 .bf16 :=
  (commM.slice (slotR o) (fun _ => rfl)).squeeze S2x128x256 squeezes_S1x2x128x256_S2x128x256

/-- The elements of slot `o`. -/
abbrev slotSet (o : Fin 4) : Finset S4x2x128x256.Idx := (slotR o).set

theorem slotM_set (o : Fin 4) : (slotM o).view.set = slotSet o := by
  exact (View.set_reshape _ _).trans (View.set_slice_whole _ _)

theorem slot_access_set (o : Fin 4) : (commM.access (slotR o)).set = slotSet o := View.set_slice_whole _ _

theorem slot_disjoint {o o' : Fin 4} (h : o ≠ o') : Disjoint (slotSet o) (slotSet o') := by
  refine Rect.unit_disjoint (0 : Fin 4) ?_
  have : o.val ≠ o'.val := fun e => h (Fin.ext e)
  show o.val + 1 ≤ o'.val ∨ o'.val + 1 ≤ o.val
  omega

theorem mem_slot (i : S4x2x128x256.Idx) (o : Fin 4) : i ∈ slotSet o ↔ i 0 = o := by
  rw [Rect.mem_set_unit]
  constructor
  · intro h
    have := h 0
    have h1 : o.val ≤ (i 0).val ∧ (i 0).val < o.val + 1 := this
    exact Fin.ext (by omega)
  · intro h a
    subst h
    fin_cases a
    · exact ⟨le_refl _, Nat.lt_succ_self _⟩
    · exact ⟨Nat.zero_le _, by have : (i 1).val < 2 := (i 1).isLt; show (i 1).val < 0 + 2; omega⟩
    · exact ⟨Nat.zero_le _, by have : (i 2).val < 128 := (i 2).isLt; show (i 2).val < 0 + 128; omega⟩
    · exact ⟨Nat.zero_le _, by have : (i 3).val < 256 := (i 3).isLt; show (i 3).val < 0 + 256; omega⟩

/-- What one slot's copy credits on either side. -/
abbrev N : ℕ := (slotM 0).view.dmaCredit
theorem N_pos : 0 < N := View.dmaCredit_pos _ (by decide)

/-! ## Contents -/

/-- Device `c`'s rows of `x`, as staged; -/
def xstg (c : Dev nD) : (cc0_stg0_0 : Ref sig .tc).ty.Contents (Elt F) :=
  (win0_0.blk (0 : Fin 1)).view.read (Elt F) ((s₀ m ρ).mem ((c : Thread nD τ).loc main_arg0))
/-- its router weights; -/
def rstg (c : Dev nD) : (cc0_stg1_0 : Ref sig .tc).ty.Contents (Elt F) :=
  (win0_1.blk (0 : Fin 1)).view.read (Elt F) ((s₀ m ρ).mem ((c : Thread nD τ).loc main_arg1))
/-- its rows of the chosen experts; -/
def istg (c : Dev nD) : (cc0_stg2_0 : Ref sig .tc).ty.Contents (Elt F) :=
  (win0_2.blk (0 : Fin 1)).view.read (Elt F) ((s₀ m ρ).mem ((c : Thread nD τ).loc main_arg2))
/-- its two experts' weights. -/
def wstg (c : Dev nD) : (cc0_stg3_0 : Ref sig .tc).ty.Contents (Elt F) :=
  (win0_3.blk (0 : Fin 1)).view.read (Elt F) ((s₀ m ρ).mem ((c : Thread nD τ).loc main_arg3))

/-- An index of the buffer with its slot forgotten. -/
def inSlot (i : S4x2x128x256.Idx) : S1x2x128x256.Idx := fun a =>
  match a with
  | ⟨0, _⟩ => (0 : Fin 1)
  | ⟨1, _⟩ => i 1
  | ⟨2, _⟩ => i 2
  | ⟨3, _⟩ => i 3

/-- The exchanged buffer's contents once all four slots are in: slot `o` holds device `o`'s two experts' weights, cast to
    bf16. The same on every device. -/
def commBuf : (cc0_scratch0 : Ref sig .tc).ty.Contents (Elt F) := fun i => k0_pay1 (wstg m ρ (i 0)) (inSlot i)

/-- A load of slot `o` reads device `o`'s weights. -/
theorem read_slot (o : Fin 4) :
    commM.view.readAt (Elt F) (slotR o).toLoadRect (commBuf m ρ) = k0_pay1 (wstg m ρ o) := by
  funext x
  show k0_pay1 (wstg m ρ ((slotR o).emb x 0)) (inSlot ((slotR o).emb x)) = _
  have h0 : (slotR o).emb x 0 = o := Fin.ext (by
    show o.val + 1 * (x 0).val = o.val
    have : (x 0).val < 1 := (x 0).isLt
    omega)
  have h1 : inSlot ((slotR o).emb x) = x := funext fun a => by
    fin_cases a
    · exact Fin.ext (by show 0 = (x 0).val; have : (x 0).val < 1 := (x 0).isLt; omega)
    · exact Fin.ext (by show 0 + 1 * (x 1).val = (x 1).val; omega)
    · exact Fin.ext (by show 0 + 1 * (x 2).val = (x 2).val; omega)
    · exact Fin.ext (by show 0 + 1 * (x 3).val = (x 3).val; omega)
  rw [h0, h1]

/-- Slot `o` of device `d`'s buffer, at share `q`, with contents `f`. -/
def slotPts (d : Dev nD) (o : Fin 4) (q : PosShare TreeShare) (f : (cc0_scratch0 : Ref sig .tc).ty.Contents (Elt F)) : sProp 𝕄 :=
  (slotM o).view.loc (d : Thread nD τ) ↦[(slotM o).view.set]{q} f

instance slotPts_storable (d : Dev nD) (o : Fin 4) (q) (f) : BI.Storable (upEmb : UEmb _ 𝕄) (slotPts (F := F) d o q f) := by
  unfold slotPts; infer_instance

theorem slotPts_eq (d : Dev nD) (o : Fin 4) (q) (f) :
    slotPts (F := F) d o q f = (((d : Thread nD τ).loc cc0_scratch0) ↦[slotSet o]{q} f : sProp 𝕄) :=
  congrArg (fun S => (((d : Thread nD τ).loc cc0_scratch0) ↦[S]{q} f : sProp 𝕄)) (slotM_set o)

/-- A store of device `o`'s weights in slot `o` leaves the slot as `commBuf` has it, -/
theorem stored_slot (d : Dev nD) (o : Fin 4) (f : (cc0_scratch0 : Ref sig .tc).ty.Contents (Elt F)) :
    (((d : Thread nD τ).loc cc0_scratch0) ↦[slotSet o]{fullShare} (commM.access (slotR o)).write (Elt F) f (k0_pay1 (wstg m ρ o)) Finset.univ : sProp 𝕄)
      = slotPts d o fullShare (commBuf m ρ) := by
  rw [slotPts_eq, ← read_slot, View.readAt_rect]
  refine pointsTo_congr fun i hi => ?_
  have := (commM.access (slotR o)).write_read_eq_piecewise (Val := Elt F) f (commBuf m ρ) Finset.univ
  refine (congrFun this i).trans ?_
  exact Finset.piecewise_eq_of_mem _ _ _ (by rw [View.setOn_univ, slot_access_set]; exact hi)

/-- and so does a copy of slot `o` from a device that has it. -/
theorem landed_slot (d : Dev nD) (o : Fin 4) (f : (cc0_scratch0 : Ref sig .tc).ty.Contents (Elt F)) :
    ((slotM o).view.loc (d : Thread nD τ) ↦[(slotM o).view.set]{fullShare}
        (slotM o).view.write (Elt F) f ((slotM o).view.read (Elt F) (commBuf m ρ)) Finset.univ : sProp 𝕄)
      = slotPts d o fullShare (commBuf m ρ) := by
  refine pointsTo_congr fun i hi => ?_
  have := (slotM o).view.write_read_eq_piecewise (Val := Elt F) f (commBuf m ρ) Finset.univ
  exact (congrFun this i).trans (Finset.piecewise_eq_of_mem _ _ _ hi)

/-- The whole buffer is its four slots. -/
theorem slots_split (d : Dev nD) (f : (cc0_scratch0 : Ref sig .tc).ty.Contents (Elt F)) :
    (((d : Thread nD τ).loc cc0_scratch0) ↦{fullShare} f : sProp 𝕄) = bigSep Finset.univ fun o : Fin 4 => slotPts d o fullShare f := by
  simp only [slotPts_eq]
  refine Ring.pointsTo_blocks (ℓ := (d : Thread nD τ).loc cc0_scratch0) (B := Fin 4) slotSet (fun _ _ h => slot_disjoint h) ?_ f
  ext i
  rw [Finset.mem_biUnion]
  exact ⟨fun _ => Finset.mem_univ _, fun _ => ⟨(show S4x2x128x256.Idx from i) 0, Finset.mem_univ _, (mem_slot i _).mpr rfl⟩⟩

/-! ## The shares of a device's own slot

Three copies read a device's own slot at once, and the device itself loads it meanwhile: the slot is cut in four
shares, share `k` lent to the copy to the device `k` places on, share `0` kept. -/

def shr : Fin 4 → PosShare TreeShare
  | 0 => fullShare.left
  | 1 => fullShare.right.left
  | 2 => fullShare.right.right.left
  | 3 => fullShare.right.right.right

theorem shares_split (d : Dev nD) (o : Fin 4) (f) :
    (slotPts (F := F) d o fullShare f : sProp 𝕄)
      ⊣⊢ iprop(slotPts d o (shr 0) f ∗ slotPts d o (shr 1) f ∗ slotPts d o (shr 2) f ∗ slotPts d o (shr 3) f) := by
  unfold slotPts shr
  have h0 := fun q : PosShare TreeShare => pointsTo_share (ℓ := (slotM o).view.loc (d : Thread nD τ)) (I := (slotM o).view.set) (f := f)
    (PosShare.mem_left_op_right q) (U := UU) (Ix := Unit) (Name := ℕ) (Lvl := ℕ) (Val := Elt F)
  constructor
  · refine (h0 fullShare).1.trans (sep_mono_right ?_)
    refine (h0 fullShare.right).1.trans (sep_mono_right ?_)
    exact (h0 fullShare.right.right).1
  · exact (sep_mono_right ((sep_mono_right (h0 fullShare.right.right).2).trans (h0 fullShare.right).2)).trans (h0 fullShare).2

/-! ## The schedule -/

/-- What device `d`'s signal hands device `c`: slot `c` of `d`'s buffer, to copy into, and that `d` is at round 0 of the
    semaphore that copy signals there. -/
def barPay (c d : Dev nD) : sProp 𝕄 := iprop((∃ f, slotPts d c fullShare f) ∗ reached ER (recvCell d c) 0)
/-- What the copy from device `o` hands device `c`: slot `o` of its buffer, filled. -/
def recvPay (c : Dev nD) (o : Fin 4) : sProp 𝕄 := slotPts c o fullShare (commBuf m ρ)
/-- What the copy to the device `k` places on hands back to `c`: the share of its own slot lent to it. -/
def sendPay (c : Dev nD) (k : Fin 4) : sProp 𝕄 := slotPts c c (shr k) (commBuf m ρ)

/-- The duties of round 0 by the semaphore's use: a unit from each other device on the barrier, one copy on each send
    semaphore but the first, one copy on each receive semaphore but the device's own. -/
def dutiesOf (c : Dev nD) : Role → Finset (Dev nD)
  | .bar => Finset.univ.erase c
  | .send k => if k = 0 then ∅ else {0}
  | .recv o => if o = c then ∅ else {0}
  | .other => ∅
def amountOf : Role → ℕ
  | .bar => 1
  | _ => N
def payOf (c d : Dev nD) : Role → sProp 𝕄
  | .bar => barPay c d
  | .send k => sendPay m ρ c k
  | .recv o => recvPay m ρ c o
  | .other => iprop(emp)

/-- The exchange: one round on every cell. -/
def exch : Rounds.Schedule (GSem nD τ sig) (Dev nD) 𝕄 where
  duties g r := if r = 0 ∧ g.1.2 = .tc then dutiesOf g.1.1 (role g.2) else ∅
  unitless _ := False
  amount g _ _ := amountOf (role g.2)
  payload g _ d := payOf m ρ g.1.1 d (role g.2)
  amount_pos g _ _ _ := by
    cases role g.2
    · exact Nat.one_pos
    all_goals exact N_pos

instance exch_payload_storable (g : GSem nD τ sig) (r : ℕ) (d : Dev nD) :
    BI.Storable (upEmb : UEmb _ 𝕄) ((exch (F := F) m ρ).payload g r d) := by
  show BI.Storable upEmb (payOf m ρ g.1.1 d (role g.2))
  cases role g.2 <;> unfold payOf
  · unfold barPay; infer_instance
  · unfold sendPay; infer_instance
  · unfold recvPay; infer_instance
  · infer_instance

section Sched
variable (c : Dev nD)

theorem duties_bar : (exch (F := F) m ρ).duties (barCell c) 0 = Finset.univ.erase c := by
  dsimp only [exch]; rw [if_pos ⟨rfl, rfl⟩, role_bar]; rfl
theorem duties_send {k : Fin 4} (hk : k ≠ 0) : (exch (F := F) m ρ).duties (sendCell c k) 0 = {0} := by
  dsimp only [exch]; rw [if_pos ⟨rfl, rfl⟩, role_send]; exact if_neg hk
theorem duties_recv {o : Fin 4} (ho : o ≠ c) : (exch (F := F) m ρ).duties (recvCell c o) 0 = {0} := by
  dsimp only [exch]; rw [if_pos ⟨rfl, rfl⟩, role_recv]; exact if_neg ho
/-- No cell has a later round, -/
theorem duties_later (g : GSem nD τ sig) : ∀ r, 1 ≤ r → (exch (F := F) m ρ).duties g r = ∅ :=
  fun r hr => by dsimp only [exch]; rw [if_neg fun h => by omega]
/-- and the first send semaphore and the device's own receive semaphore none at all. -/
theorem duties_send_none : ∀ r, 0 ≤ r → (exch (F := F) m ρ).duties (sendCell c 0) r = ∅ := fun r _ => by
  dsimp only [exch]; rw [role_send]; rw [show dutiesOf c (.send 0) = ∅ from rfl, ite_self]
theorem duties_recv_none {o : Fin 4} (ho : o = c) : ∀ r, 0 ≤ r → (exch (F := F) m ρ).duties (recvCell c o) r = ∅ := fun r _ => by
  dsimp only [exch]; rw [role_recv]; rw [show dutiesOf c (.recv o) = ∅ from if_pos ho, ite_self]

theorem amount_bar (d : Dev nD) : (exch (F := F) m ρ).amount (barCell c) 0 d = 1 := by dsimp only [exch]; rw [role_bar]; rfl
theorem amount_send (k : Fin 4) (d : Dev nD) : (exch (F := F) m ρ).amount (sendCell c k) 0 d = N := by dsimp only [exch]; rw [role_send]; rfl
theorem amount_recv (o : Fin 4) (d : Dev nD) : (exch (F := F) m ρ).amount (recvCell c o) 0 d = N := by dsimp only [exch]; rw [role_recv]; rfl

theorem expect_bar : (exch (F := F) m ρ).expect (barCell c) 0 = 3 := by
  unfold Schedule.expect Schedule.amountOf
  rw [duties_bar, Finset.sum_congr rfl fun d _ => amount_bar m ρ c d, Finset.sum_const, Finset.card_erase_of_mem (Finset.mem_univ _), Finset.card_univ]
  rfl
theorem expect_send {k : Fin 4} (hk : k ≠ 0) : (exch (F := F) m ρ).expect (sendCell c k) 0 = N := by
  unfold Schedule.expect Schedule.amountOf; rw [duties_send m ρ c hk, Finset.sum_singleton, amount_send]
theorem expect_recv {o : Fin 4} (ho : o ≠ c) : (exch (F := F) m ρ).expect (recvCell c o) 0 = N := by
  unfold Schedule.expect Schedule.amountOf; rw [duties_recv m ρ c ho, Finset.sum_singleton, amount_recv]

theorem payload_bar (d : Dev nD) : (exch (F := F) m ρ).payload (barCell c) 0 d = barPay c d := by dsimp only [exch]; rw [role_bar]; rfl
theorem payload_send (k : Fin 4) (d : Dev nD) : (exch (F := F) m ρ).payload (sendCell c k) 0 d = sendPay m ρ c k := by
  dsimp only [exch]; rw [role_send]; rfl
theorem payload_recv (o : Fin 4) (d : Dev nD) : (exch (F := F) m ρ).payload (recvCell c o) 0 d = recvPay m ρ c o := by
  dsimp only [exch]; rw [role_recv]; rfl

theorem others : (Finset.univ.erase c : Finset (Dev nD)) = {peer c 1, peer c 2, peer c 3} := by revert c; decide

/-- All of the barrier's round: a slot of each other device. -/
theorem rest_bar : bigSep ((exch (F := F) m ρ).duties (barCell c) 0 \ ∅) (fun d => (exch (F := F) m ρ).payload (barCell c) 0 d)
    = iprop(barPay c (peer c 1) ∗ barPay c (peer c 2) ∗ barPay c (peer c 3)) := by
  rw [Finset.sdiff_empty, duties_bar, bigSep_eq_bigSepL_of_eq [peer c 1, peer c 2, peer c 3] (by revert c; decide) (by revert c; decide),
    bigSepL_cons_cons, bigSepL_cons_cons, bigSepL_singleton, payload_bar, payload_bar, payload_bar]
  rfl
theorem rest_send {k : Fin 4} (hk : k ≠ 0) :
    bigSep ((exch (F := F) m ρ).duties (sendCell c k) 0 \ ∅) (fun d => (exch (F := F) m ρ).payload (sendCell c k) 0 d) = sendPay m ρ c k := by
  rw [Finset.sdiff_empty, duties_send m ρ c hk, bigSep_singleton, payload_send]
theorem rest_recv {o : Fin 4} (ho : o ≠ c) :
    bigSep ((exch (F := F) m ρ).duties (recvCell c o) 0 \ ∅) (fun d => (exch (F := F) m ρ).payload (recvCell c o) 0 d) = recvPay m ρ c o := by
  rw [Finset.sdiff_empty, duties_recv m ρ c ho, bigSep_singleton, payload_recv]

end Sched

/-! ## What each device owes at launch; the levels -/

/-- The three copies' credits, as owed until the copies are issued: the copy to `peer c 1` is the last summand. -/
def O₃ (c : Dev nD) : CellTallies nD τ sig Unit :=
  tallyAt (recvCell (peer c 3) c) () N + tallyAt (recvCell (peer c 2) c) () N + tallyAt (recvCell (peer c 1) c) () N
/-- With the units of the last one, two, three signals. -/
def O₂ (c : Dev nD) : CellTallies nD τ sig Unit := O₃ c + tallyAt (barCell (peer c 3)) () 1
def O₁ (c : Dev nD) : CellTallies nD τ sig Unit := O₂ c + tallyAt (barCell (peer c 2)) () 1
def O₀ (c : Dev nD) : CellTallies nD τ sig Unit := O₁ c + tallyAt (barCell (peer c 1)) () 1

def L (g : GSem nD τ sig) : Finset Unit := if g.1.2 = .tc then {()} else ∅
/-- Barrier cells at level 1, receive cells at 2, all others at 0. -/
def lvOf : Role → ℕ
  | .bar => 1
  | .recv _ => 2
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_bar]; rfl
theorem lv_recv (c : Dev nD) (o : Fin 4) : lv (recvCell c o) () = 2 := by unfold lv; rw [role_recv]; rfl

theorem tally_pos {g g' : GSem nD τ sig} {u : Unit} {n : ℕ} {O : CellTallies nD τ sig Unit} (h : 0 < (O + tallyAt g' () n) g u) : 0 < O g u ∨ g = g' := by
  rw [Pi.add_apply, Finsupp.add_apply, tallyAt_apply] at h
  by_cases hg : g = g' ∧ u = ()
  · exact .inr hg.1
  · rw [if_neg hg] at h; exact .inl h

theorem O₃_pos {c : Dev nD} {g : GSem nD τ sig} {u : Unit} (h : 0 < O₃ c g u) : ∃ d, g = recvCell d c := by
  unfold O₃ at h
  rcases tally_pos h with h | rfl
  · rcases tally_pos h with h | rfl
    · rw [tallyAt_apply] at h
      by_cases hg : g = recvCell (peer c 3) c ∧ u = ()
      · exact ⟨_, hg.1⟩
      · rw [if_neg hg] at h; exact absurd h (Nat.lt_irrefl 0)
    · exact ⟨_, rfl⟩
  · exact ⟨_, rfl⟩

theorem O₀_pos {c : Dev nD} {g : GSem nD τ sig} {u : Unit} (h : 0 < O₀ c g u) : (∃ d, g = recvCell d c) ∨ ∃ d, g = barCell d := by
  unfold O₀ O₁ O₂ at h
  rcases tally_pos h with h | rfl
  · rcases tally_pos h with h | rfl
    · rcases tally_pos h with h | rfl
      · exact .inl (O₃_pos h)
      · exact .inr ⟨_, rfl⟩
    · exact .inr ⟨_, rfl⟩
  · exact .inr ⟨_, rfl⟩

/-- A wait on a staging semaphore is below all a device owes at launch. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; unfold lv; rw [hq]; exact le_refl _)
      (fun g u hg => by
        rcases O₀_pos hg with ⟨d, rfl⟩ | ⟨d, rfl⟩
        · rw [lv_recv]; decide
        · rw [lv_bar]; decide)
  · rw [MayWait_zero]; iintro -; iempintro

/-- At its barrier wait a device owes the copies only, all on receive cells, above its barrier cell. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨d, rfl⟩ := O₃_pos hg; exact Finset.mem_singleton_self _)
    (fun p hp => by rw [Finset.mem_singleton.mp hp]; exact (lv_bar c).le)
    (fun g u hg => by obtain ⟨d, rfl⟩ := O₃_pos hg; rw [lv_recv]; decide)

end Cert.Moe

end
-- ==== Proof.Body.lean ====
/-
# One device's run of the kernel body

The kernel body executed symbolically on one device, for any float values: from its staged operands, its own buffer
of slots and its part of the exchange's ghost state, to its output block computed from the four devices' weights,
every semaphore at zero again.
-/
module

public import proofs.«01_k».proof.Proof.Protocol
public import proofs.«01_k».proof.Proof.Gen.KernelIdeal.Points

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, listed: the barrier, the four send semaphores, the four receive semaphores -/

def csem (j : Fin 9) : SemLoc sig := if j = 0 then .reg barS else .dma ⟨4 + j.val, by have := j.isLt; show 4 + j.val < 13; omega⟩
def kcell (cj : Dev nD × Fin 9) : GSem nD τ sig := ((cj.1 : Thread nD τ), csem cj.2)

abbrev jS (k : Fin 4) : Fin 9 := ⟨1 + k.val, by omega⟩
abbrev jR (o : Fin 4) : Fin 9 := ⟨5 + o.val, by omega⟩

theorem kcell_bar (c : Dev nD) : kcell (c, 0) = barCell c := rfl
theorem csem_send (k : Fin 4) : csem (jS k) = .dma (sendS k) := by revert k; decide
theorem csem_recv (o : Fin 4) : csem (jR o) = .dma (recvS o) := by revert o; decide
theorem kcell_send (c : Dev nD) (k : Fin 4) : kcell (c, jS k) = sendCell c k := by unfold kcell; rw [csem_send]
theorem kcell_recv (c : Dev nD) (o : Fin 4) : kcell (c, jR o) = recvCell c o := by unfold kcell; rw [csem_recv]

/-- All the cells' invariants, under the names they were allocated at, and that round 0 of each is reached. -/
def records (K : Dev nD × Fin 9 → ℕ) : sProp 𝕄 :=
  iprop((bigSep Finset.univ fun cj : Dev nD × Fin 9 => cellInv ER (exch m ρ) (K cj) (kcell cj))
    ∗ bigSep Finset.univ fun cj : Dev nD × Fin 9 => reached ER (kcell cj) 0)

instance records_persistent (K : Dev nD × Fin 9 → ℕ) : BI.Persistent (records m ρ K) := by unfold records; infer_instance

theorem inv_at (K : Dev nD × Fin 9 → ℕ) (cj : Dev nD × Fin 9) : records m ρ K ⊢ cellInv ER (exch m ρ) (K cj) (kcell cj) := by
  unfold records
  exact sep_elim_left.trans (bigSep_elim (Finset.mem_univ cj))
theorem reached_at (K : Dev nD × Fin 9 → ℕ) (cj : Dev nD × Fin 9) : records m ρ K ⊢ reached ER (kcell cj) 0 := by
  unfold records
  exact sep_elim_right.trans (bigSep_elim (Finset.mem_univ cj))
theorem inv_bar (K : Dev nD × Fin 9 → ℕ) (c : Dev nD) : records m ρ K ⊢ cellInv ER (exch m ρ) (K (c, 0)) (barCell c) := inv_at m ρ K (c, 0)
theorem inv_send (K : Dev nD × Fin 9 → ℕ) (c : Dev nD) (k : Fin 4) : records m ρ K ⊢ cellInv ER (exch m ρ) (K (c, jS k)) (sendCell c k) := by
  rw [← kcell_send]; exact inv_at m ρ K (c, jS k)
theorem inv_recv (K : Dev nD × Fin 9 → ℕ) (c : Dev nD) (o : Fin 4) : records m ρ K ⊢ cellInv ER (exch m ρ) (K (c, jR o)) (recvCell c o) := by
  rw [← kcell_recv]; exact inv_at m ρ K (c, jR o)
theorem reached_bar (K : Dev nD × Fin 9 → ℕ) (c : Dev nD) : records m ρ K ⊢ reached ER (barCell c) 0 := reached_at m ρ K (c, 0)
theorem reached_send (K : Dev nD × Fin 9 → ℕ) (c : Dev nD) (k : Fin 4) : records m ρ K ⊢ reached ER (sendCell c k) 0 := by
  rw [← kcell_send]; exact reached_at m ρ K (c, jS k)
theorem reached_recv (K : Dev nD × Fin 9 → ℕ) (c : Dev nD) (o : Fin 4) : records m ρ K ⊢ reached ER (recvCell c o) 0 := by
  rw [← kcell_recv]; exact reached_at m ρ K (c, jR o)

/-- A device's positions at round 0 of its nine cells. -/
def posns (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0 ∗ atPos ER (sendCell c 3) 0 ∅ 0)
    ∗ (atPos ER (recvCell c 0) 0 ∅ 0 ∗ atPos ER (recvCell c 1) 0 ∅ 0 ∗ atPos ER (recvCell c 2) 0 ∅ 0 ∗ atPos ER (recvCell c 3) 0 ∅ 0))

/-- The tokens of the duties a device pays: a unit on each other device's barrier, its copy on each other device's receive
    semaphore, and the same copy on its own send semaphore. -/
def toks (c : Dev nD) : sProp 𝕄 :=
  iprop((dutyTok ER (barCell (peer c 1)) 0 c ∗ dutyTok ER (barCell (peer c 2)) 0 c ∗ dutyTok ER (barCell (peer c 3)) 0 c)
    ∗ (dutyTok ER (recvCell (peer c 1) c) 0 0 ∗ dutyTok ER (recvCell (peer c 2) c) 0 0 ∗ dutyTok ER (recvCell (peer c 3) c) 0 0)
    ∗ (dutyTok ER (sendCell c 1) 0 0 ∗ dutyTok ER (sendCell c 2) 0 0 ∗ dutyTok ER (sendCell c 3) 0 0))

/-- What a device is due on its receive semaphore `o`: one copy's credit, nothing on its own. -/
def due (c : Dev nD) (o : Fin 4) : ℕ := if o = c then 0 else N

/-- The credit a device starts with. -/
def creds (c : Dev nD) : sProp 𝕄 :=
  iprop(cred (tallyAt (barCell c) () 3)
    ∗ (cred (tallyAt (recvCell c 0) () (due c 0)) ∗ cred (tallyAt (recvCell c 1) () (due c 1))
      ∗ cred (tallyAt (recvCell c 2) () (due c 2)) ∗ cred (tallyAt (recvCell c 3) () (due c 3))))

/-- The exchange's ghost state a device starts from. -/
def ghost (K : Dev nD × Fin 9 → ℕ) (c : Dev nD) : sProp 𝕄 := iprop(records m ρ K ∗ posns c ∗ toks c)

/-- What device `c`'s body starts from, beside its operands and its buffer of slots. -/
def start (c : Dev nD) : sProp 𝕄 := iprop((∃ K, ghost m ρ K c) ∗ creds c ∗ levAts L lv)

/-- All nine of a device's semaphores at zero: the eight of its own first, in order, then the barrier. -/
def ownZero (c : Dev nD) : sProp 𝕄 :=
  iprop((semVal (sendCell c 0) 0 ∗ semVal (sendCell c 1) 0 ∗ semVal (sendCell c 2) 0 ∗ semVal (sendCell c 3) 0)
    ∗ (semVal (recvCell c 0) 0 ∗ semVal (recvCell c 1) 0 ∗ semVal (recvCell c 2) 0 ∗ semVal (recvCell c 3) 0))

def commPts (c : Dev nD) (f : (cc0_scratch0 : Ref sig .tc).ty.Contents (Elt F)) : sProp 𝕄 :=
  (((c : Thread nD τ).loc cc0_scratch0) ↦{fullShare} f)

def Φ₀ (c : Dev nD) : sProp 𝕄 := iprop(start m ρ c ∗ ∃ f, commPts c f)
def Φ₁ (c : Dev nD) : sProp 𝕄 := iprop(commPts c (commBuf m ρ) ∗ ownZero c ∗ semVal (barCell c) 0)

/-- Device `c`'s output rows, as a value of the four operands and the four devices' weights. -/
def outOf (x : Vec F S256x128 .f32) (rw : Vec F S128x8 .f32) (i0 i1 : Vec F S256x1 .i32) (w : Fin 4 → Vec F S2x128x256 .f32) : Vec F S256x256 .f32 :=
  k0_pay15 (k0_pay11 (k0_pay3 x) (k0_pay9 x rw i0 i1) (k0_pay10 x rw i0 i1))
    (k0_pay12 (k0_pay3 x) (k0_pay9 x rw i0 i1) (k0_pay10 x rw i0 i1) (k0_pay1 (w 0)))
    (k0_pay13 (k0_pay1 (w 1))) (k0_pay14 (k0_pay3 x) (k0_pay9 x rw i0 i1) (k0_pay10 x rw i0 i1))
    (k0_pay1 (w 2)) (k0_pay1 (w 3))

/-- The two columns of chosen experts as loaded. -/
def col0 (i : (cc0_stg2_0 : Ref sig .tc).ty.Contents (Elt F)) : Vec F S256x1 .i32 :=
  (Memref.whole cc0_stg2_0 : Memref sig .tc .vmem S256x2 .i32).view.readAt (Elt F) (Rect.unit (s := S256x2) ![0, 0] S256x1.size inb_S256x2_S256x1_0_0).toLoadRect i
def col1 (i : (cc0_stg2_0 : Ref sig .tc).ty.Contents (Elt F)) : Vec F S256x1 .i32 :=
  (Memref.whole cc0_stg2_0 : Memref sig .tc .vmem S256x2 .i32).view.readAt (Elt F) (Rect.unit (s := S256x2) ![0, 1] S256x1.size inb_S256x2_S256x1_0_1).toLoadRect i

def outAt (c : Dev nD) : (cc0_stg4_0 : Ref sig .tc).ty.Contents (Elt F) :=
  outOf (xstg m ρ c) (rstg m ρ c) (col0 (istg m ρ c)) (col1 (istg m ρ c)) (wstg m ρ)

/-! ## The pipeline's proof data: one point, four operands in, one block out -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => wstg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 9 → ℕ)

def bodyPre (c : Dev nD) : sProp 𝕄 :=
  iprop((ghost m ρ K c ∗ creds c ∗ levAts L lv ∗ ∃ f, commPts c f)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ m ρ c ∗ (dats m ρ 0 c).owesAt () t0_0.succ
    ∗ stg c cc0_stg0_0 (xstg m ρ c) ∗ stg c cc0_stg1_0 (rstg m ρ c) ∗ stg c cc0_stg2_0 (istg m ρ c)
    ∗ stg c cc0_stg3_0 (wstg m ρ c) ∗ stg c cc0_stg4_0 (outAt m ρ c))

/-! ### The steps, each at an offset, device and semaphore of the printed form -/

variable {α : Type}

abbrev WP (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem slot_setOn (o : Fin 4) : commM.view.setOn (slotR o).toLoadRect.set ⊆ slotSet o := by
  intro i hi
  obtain ⟨x, hx, rfl⟩ := Finset.mem_map.mp hi
  exact hx

theorem zero2 : (![0, 0] : Fin 2 → Nat) = fun _ => 0 := funext (by decide)
theorem zero3 : (![0, 0, 0] : Fin 3 → Nat) = fun _ => 0 := funext (by decide)
omit [FloatOps F] in
theorem read_x (f : (cc0_stg0_0 : Ref sig .tc).ty.Contents (Elt F)) :
    (Memref.whole cc0_stg0_0 : Memref sig .tc .vmem S256x128 .f32).view.readAt (Elt F)
      (Rect.unit (s := S256x128) ![0, 0] S256x128.size inb_S256x128_S256x128_0_0).toLoadRect f = f := Memref.readAt_unit_zero (Elt F) cc0_stg0_0 zero2 _ f
omit [FloatOps F] in
theorem read_r (f : (cc0_stg1_0 : Ref sig .tc).ty.Contents (Elt F)) :
    (Memref.whole cc0_stg1_0 : Memref sig .tc .vmem S128x8 .f32).view.readAt (Elt F)
      (Rect.unit (s := S128x8) ![0, 0] S128x8.size inb_S128x8_S128x8_0_0).toLoadRect f = f := Memref.readAt_unit_zero (Elt F) cc0_stg1_0 zero2 _ f
omit [FloatOps F] in
theorem read_w (f : (cc0_stg3_0 : Ref sig .tc).ty.Contents (Elt F)) :
    (Memref.whole cc0_stg3_0 : Memref sig .tc .vmem S2x128x256 .f32).view.readAt (Elt F)
      (Rect.unit (s := S2x128x256) ![0, 0, 0] S2x128x256.size inb_S2x128x256_S2x128x256_0_0_0).toLoadRect f = f :=
  Memref.readAt_unit_zero (Elt F) cc0_stg3_0 zero3 _ f
omit [FloatOps F] in
theorem write_out (f w : (cc0_stg4_0 : Ref sig .tc).ty.Contents (Elt F)) :
    ((Memref.whole cc0_stg4_0 : Memref sig .tc .vmem S256x256 .f32).access
      (Rect.unit (s := S256x256) ![0, 0] S256x256.size inb_S256x256_S256x256_0_0) : View sig .tc _ _ _).write (Elt F) f w Finset.univ = w :=
  Memref.write_access_unit_zero_univ (Elt F) cc0_stg4_0 zero2 _ f w

/-- A load of a slot, at any share of it. -/
theorem wp_load_slot (c : Dev nD) (o : Fin 4) (q : PosShare TreeShare) (f : (cc0_scratch0 : Ref sig .tc).ty.Contents (Elt F))
    (off : Fin 4 → Nat) (h : off = ![o.val, 0, 0, 0]) {inb : ∀ a, off a + S1x2x128x256.size a ≤ S4x2x128x256.size a}
    {hl : commM.view.LoadsAt (Rect.unit (s := S4x2x128x256) off S1x2x128x256.size inb).toLoadRect}
    {k : (S1x2x128x256.Idx → Elt F .bf16) → Prog (TpuEff nD τ sig (Elt F) Λ₀ .tc) α} {Q : α → sProp 𝕄} :
    (slotPts c o q f : sProp 𝕄)
      ⊢ iprop((slotPts c o q f -∗ WP c (k (commM.view.readAt (Elt F) (slotR o).toLoadRect f)) Q)
          -∗ WP c (.op (.load commM (Rect.unit (s := S4x2x128x256) off S1x2x128x256.size inb).toLoadRect hl) k) Q) := by
  subst h
  rw [slotPts_eq]
  exact wp_load 𝒱₀ (c : Thread nD τ) none Set.univ (m := commM) (r := (slotR o).toLoadRect) (f := f) (slot_setOn o)

/-- The store of the device's own weights in its own slot. -/
theorem wp_store_slot (c : Dev nD) (f : (cc0_scratch0 : Ref sig .tc).ty.Contents (Elt F))
    (off : Fin 4 → Nat) (h : off = ![c.val, 0, 0, 0]) {inb : ∀ a, off a + S1x2x128x256.size a ≤ S4x2x128x256.size a}
    {hs} {hb} {k : PUnit → Prog (TpuEff nD τ sig (Elt F) Λ₀ .tc) α} {Q : α → sProp 𝕄} :
    (slotPts c c fullShare f : sProp 𝕄)
      ⊢ iprop((slotPts c c fullShare (commBuf m ρ) -∗ WP c (k ⟨⟩) Q)
          -∗ WP c (.op (.store commM (Rect.unit (s := S4x2x128x256) off S1x2x128x256.size inb) (k0_pay1 (wstg m ρ c)) Finset.univ hs hb) k) Q) := by
  subst h
  rw [slotPts_eq, ← stored_slot m ρ c c f]
  exact wp_store 𝒱₀ (c : Thread nD τ) none Set.univ (m := commM) (r := slotR c) (Mk := Finset.univ) (slot_access_set c).subset

/-- `Rounds.wp_send_pointsTo` at the exchange's cells. -/
theorem wp_send_at (c : Dev nD) (k : Fin 4) (hk : k ≠ 0) (hnc : c ≠ peer c k) {hsc} {hsrc} {hdst} {hsem}
    {kk : PUnit → Prog (TpuEff nD τ sig (Elt F) Λ₀ .tc) α} {Q : α → sProp 𝕄}
    (fn : (cc0_scratch0 : Ref sig .tc).ty.Contents (Elt F)) (O : CellTallies nD τ sig Unit) (W : Waits sig Unit) :
    iprop(cellInv ER (exch m ρ) (K (c, jS k)) (sendCell c k) ∗ cellInv ER (exch m ρ) (K (peer c k, jR c)) (recvCell (peer c k) c)
        ∗ slotPts c c (shr k) (commBuf m ρ) ∗ slotPts (peer c k) c fullShare fn
        ∗ owes (c : Thread nD τ) (O + tallyAt (recvCell (peer c k) c) () N) W
        ∗ dutyTok ER (sendCell c k) 0 0 ∗ reached ER (sendCell c k) 0
        ∗ dutyTok ER (recvCell (peer c k) c) 0 0 ∗ reached ER (recvCell (peer c k) c) 0)
      ⊢ iprop(((cred (tallyAt (sendCell c k) () N) ∗ owes (c : Thread nD τ) O W) -∗ WP c (kk ⟨⟩) Q)
          -∗ WP c (.op (.enqueueDma (slotM c) (.remote (Dev.tc (peer c k) : Thread nD τ) (slotM c) (.dma (sendS k)) hsc) (.dma (recvS c)) hsrc hdst hsem) kk) Q) := by
  unfold slotPts
  have hN : (slotM c).view.amount (.dma (recvS c)) = N := rfl
  have hd1 : (0 : Dev nD) ∈ (exch (F := F) m ρ).duties (sendCell c k) 0 := by rw [duties_send m ρ c hk]; exact Finset.mem_singleton_self _
  have hd2 : (0 : Dev nD) ∈ (exch (F := F) m ρ).duties (recvCell (peer c k) c) 0 := by rw [duties_recv m ρ (peer c k) hnc]; exact Finset.mem_singleton_self _
  have hp1 : ((slotM c).view.loc (c : Thread nD τ) ↦[(slotM c).view.set]{shr k} commBuf m ρ : sProp 𝕄) ⊢ (exch m ρ).payload (sendCell c k) 0 0 := by
    rw [payload_send]; exact BI.Entails.refl _
  have hp2 : ((slotM c).view.loc (peer c k : Thread nD τ) ↦[(slotM c).view.set]{fullShare}
        (slotM c).view.write (Elt F) fn ((slotM c).view.read (Elt F) (commBuf m ρ)) Finset.univ : sProp 𝕄)
      ⊢ (exch m ρ).payload (recvCell (peer c k) c) 0 0 := by
    rw [payload_recv]; exact Entails.of_eq (landed_slot m ρ (peer c k) c fn)
  have hr : τ.routes (Dev.tc c) (Dev.tc (peer c k)) = true := by routes
  have hO : O + tallyAt (recvCell (peer c k) c) () N = O + tallyAt (recvCell (peer c k) c) () N := rfl
  have ha1 := amount_send m ρ c k 0
  have ha2 := amount_recv m ρ (peer c k) c 0
  exact Rounds.wp_send_pointsTo 𝒱₀ ER (exch m ρ) (c : Thread nD τ) none (c' := (peer c k : Thread nD τ)) (src := slotM c) (dst := slotM c)
    (sS := .dma (sendS k)) (sem := .dma (recvS c)) (hsc := hsc) (hsrc := hsrc) (hdst := hdst) (hsem := hsem) (k := kk) (q := shr k) (Q := Q)
    (κ₁ := K (c, jS k)) (κ₂ := K (peer c k, jR c)) (fs := commBuf m ρ) (Es := Set.univ) (defs := defs₀ (F := F))
    (r₁ := 0) (r₂ := 0) (d₁ := 0) (d₂ := 0) (fd := fn) hd1 hd2 () () N hN ha1 ha2 O hO (W := W) hp1 hp2 hr

/-- The copy of the device's own slot to the device `k` places on. -/
theorem wp_send_slot (c n : Dev nD) (k : Fin 4) (hk : k ≠ 0) (hn : n = peer c k) (hnc : c ≠ peer c k)
    (off : Fin 4 → Nat) (h : off = ![c.val, 0, 0, 0]) {inb : ∀ a, off a + S1x2x128x256.size a ≤ S4x2x128x256.size a}
    (sS sR : DmaSem sig) (hS : sS = sendS k) (hR : sR = recvS c) {hsc} {hsrc} {hdst} {hsem}
    {kk : PUnit → Prog (TpuEff nD τ sig (Elt F) Λ₀ .tc) α} {Q : α → sProp 𝕄}
    (fn : (cc0_scratch0 : Ref sig .tc).ty.Contents (Elt F)) (O : CellTallies nD τ sig Unit) (W : Waits sig Unit) :
    iprop(records m ρ K ∗ slotPts c c (shr k) (commBuf m ρ) ∗ slotPts (peer c k) c fullShare fn
        ∗ owes (c : Thread nD τ) (O + tallyAt (recvCell (peer c k) c) () N) W
        ∗ dutyTok ER (sendCell c k) 0 0 ∗ dutyTok ER (recvCell (peer c k) c) 0 0)
      ⊢ iprop(((cred (tallyAt (sendCell c k) () N) ∗ owes (c : Thread nD τ) O W) -∗ WP c (kk ⟨⟩) Q)
          -∗ WP c (.op (.enqueueDma
              ((commM.slice (Rect.unit (s := S4x2x128x256) off S1x2x128x256.size inb) (fun _ => rfl)).squeeze S2x128x256 squeezes_S1x2x128x256_S2x128x256)
              (.remote (Dev.tc n : Thread nD τ)
                ((commM.slice (Rect.unit (s := S4x2x128x256) off S1x2x128x256.size inb) (fun _ => rfl)).squeeze S2x128x256 squeezes_S1x2x128x256_S2x128x256)
                (.dma sS) hsc) (.dma sR) hsrc hdst hsem) kk) Q) := by
  subst h hn hS hR
  refine BIBase.Entails.trans ?_ (wp_send_at m ρ K c k hk hnc fn O W)
  iintro ⟨#HR, Hs, Hd, HO, Ht1, Ht2⟩
  isplitr; · iapply (inv_send m ρ K c k); iexact HR
  isplitr; · iapply (inv_recv m ρ K (peer c k) c); iexact HR
  isplitl [Hs]; · iexact Hs
  isplitl [Hd]; · iexact Hd
  isplitl [HO]; · iexact HO
  isplitl [Ht1]; · iexact Ht1
  isplitr; · iapply (reached_send m ρ K c k); iexact HR
  isplitl [Ht2]; · iexact Ht2
  iapply (reached_recv m ρ K (peer c k) c); iexact HR

/-- The wait for a copy to have left: the share lent to it back, its semaphore at zero. -/
theorem wp_wait_sent (c : Dev nD) (k : Fin 4) (hk : k ≠ 0)
    (off : Fin 4 → Nat) (h : off = ![c.val, 0, 0, 0]) {inb : ∀ a, off a + S1x2x128x256.size a ≤ S4x2x128x256.size a}
    (sS : DmaSem sig) (hS : sS = sendS k) {hsrc} {hdst}
    {kk : PUnit → Prog (TpuEff nD τ sig (Elt F) Λ₀ .tc) α} {Q : α → sProp 𝕄} (W : Waits sig Unit) :
    iprop(records m ρ K ∗ cred (tallyAt (sendCell c k) () N) ∗ owes (c : Thread nD τ) 0 W ∗ atPos ER (sendCell c k) 0 ∅ 0)
      ⊢ iprop((∀ W', (owes (c : Thread nD τ) 0 W' ∗ semVal (sendCell c k) 0 ∗ slotPts c c (shr k) (commBuf m ρ)) -∗ WP c (kk ⟨⟩) Q)
          -∗ WP c (.op (.waitDma2 sS
              ((commM.slice (Rect.unit (s := S4x2x128x256) off S1x2x128x256.size inb) (fun _ => rfl)).squeeze S2x128x256 squeezes_S1x2x128x256_S2x128x256)
              ((commM.slice (Rect.unit (s := S4x2x128x256) off S1x2x128x256.size inb) (fun _ => rfl)).squeeze S2x128x256 squeezes_S1x2x128x256_S2x128x256)
              hsrc hdst) kk) Q) := by
  subst h hS
  iintro ⟨#HR, Hc, HO, Ha⟩ Hk
  iapply (Rounds.wp_wait_rest_token 𝒱₀ ER (exch m ρ) (c : Thread nD τ) none (κ := K (c, jS k))
      (wpE_waitDma2_eq 𝒱₀ (c : Thread nD τ) none Set.univ) (Set.mem_univ _) () (O := 0) (W := W) (R := 0) (m := 0) (T := ∅)
      (by rw [Nat.zero_add, expect_send m ρ c hk])) $$ [Hc HO Ha]
  · isplitr; · iapply (inv_send m ρ K c k); iexact HR
    isplitl [Hc]; · iexact Hc
    isplitl [HO]; · iexact HO
    isplitr; · rw [MayWait_zero]; iempintro
    iexact Ha
  iintro ⟨HO, Ha, -, Hp⟩
  ihave Hp := (Entails.of_eq (rest_send m ρ c hk)) $$ Hp
  imod (Rounds.cell_close ER (exch m ρ) (Set.mem_univ (K (c, jS k))) (fun h => h) (R := 0 + 1) (duties_later m ρ (sendCell c k))) $$ [Ha] with Hz
  · isplitr; · iapply (inv_send m ρ K c k); iexact HR
    iexact Ha
  iapply Hk
  isplitl [HO]; · iexact HO
  isplitl [Hz]; · iexact Hz
  unfold sendPay; iexact Hp

/-- The wait for the copy from device `o`, unless `o` is the device itself, then the load of slot `o`: it reads device `o`'s
    weights. Before it the device holds its kept share of its own slot if `o` is itself, and is due the copy otherwise. -/
def slotIn (c : Dev nD) (o : Fin 4) : sProp 𝕄 := if o = c then slotPts c c (shr 0) (commBuf m ρ) else iprop(emp)
def slotOut (c : Dev nD) (o : Fin 4) : sProp 𝕄 := slotPts c o (if o = c then shr 0 else fullShare) (commBuf m ρ)

theorem wp_recv_slot (c : Dev nD) (o : Fin 4)
    (off : Fin 4 → Nat) (h : off = ![o.val, 0, 0, 0]) {inb : ∀ a, off a + S1x2x128x256.size a ≤ S4x2x128x256.size a}
    (sR : DmaSem sig) (hR : sR = recvS o) (v : BitVec 1) (hv : v = 1#1 ↔ o ≠ c) {hsrc} {hdst}
    {hl : commM.view.LoadsAt (Rect.unit (s := S4x2x128x256) off S1x2x128x256.size inb).toLoadRect}
    {kk : (S1x2x128x256.Idx → Elt F .bf16) → Prog (TpuEff nD τ sig (Elt F) Λ₀ .tc) α} {Q : α → sProp 𝕄} (W : Waits sig Unit) :
    iprop(records m ρ K ∗ cred (tallyAt (recvCell c o) () (due c o)) ∗ owes (c : Thread nD τ) 0 W ∗ atPos ER (recvCell c o) 0 ∅ 0 ∗ slotIn m ρ c o)
      ⊢ iprop((∀ W', (owes (c : Thread nD τ) 0 W' ∗ semVal (recvCell c o) 0 ∗ slotOut m ρ c o) -∗ WP c (kk (k0_pay1 (wstg m ρ o))) Q)
          -∗ WP c (if h : v = 1#1 then (.op (.waitDma2 sR
              ((commM.slice (Rect.unit (s := S4x2x128x256) off S1x2x128x256.size inb) (fun _ => rfl)).squeeze S2x128x256 squeezes_S1x2x128x256_S2x128x256)
              ((commM.slice (Rect.unit (s := S4x2x128x256) off S1x2x128x256.size inb) (fun _ => rfl)).squeeze S2x128x256 squeezes_S1x2x128x256_S2x128x256)
              hsrc hdst) fun _ => .op (.load commM (Rect.unit (s := S4x2x128x256) off S1x2x128x256.size inb).toLoadRect hl) kk)
            else .op (.load commM (Rect.unit (s := S4x2x128x256) off S1x2x128x256.size inb).toLoadRect hl) kk) Q) := by
  subst h hR
  by_cases ho : o = c
  · rw [dif_neg (fun h => hv.mp h ho)]
    unfold slotIn slotOut
    rw [if_pos ho, if_pos ho]
    iintro ⟨#HR, -, HO, Ha, Hs⟩ Hk
    imod (Rounds.cell_close ER (exch m ρ) (Set.mem_univ (K (c, jR o))) (fun h => h) (R := 0) (duties_recv_none m ρ c ho)) $$ [Ha] with Hz
    · isplitr; · iapply (inv_recv m ρ K c o); iexact HR
      iexact Ha
    ihave Hs := (show slotPts c c (shr 0) (commBuf m ρ) ⊢ slotPts c o (shr 0) (commBuf m ρ) from by rw [ho]) $$ Hs
    iapply (wp_load_slot c o (shr 0) (commBuf m ρ) _ rfl) $$ Hs
    iintro Hs
    rw [read_slot]
    iapply Hk
    isplitl [HO]; · iexact HO
    isplitl [Hz]; · iexact Hz
    iexact Hs
  · rw [dif_pos (hv.mpr ho)]
    unfold slotIn slotOut due
    rw [if_neg ho, if_neg ho, if_neg ho]
    iintro ⟨#HR, Hc, HO, Ha, -⟩ Hk
    iapply (Rounds.wp_wait_rest_token 𝒱₀ ER (exch m ρ) (c : Thread nD τ) none (κ := K (c, jR o))
        (wpE_waitDma2_eq 𝒱₀ (c : Thread nD τ) none Set.univ) (Set.mem_univ _) () (O := 0) (W := W) (R := 0) (m := 0) (T := ∅)
        (by rw [Nat.zero_add, expect_recv m ρ c ho])) $$ [Hc HO Ha]
    · isplitr; · iapply (inv_recv m ρ K c o); iexact HR
      isplitl [Hc]; · iexact Hc
      isplitl [HO]; · iexact HO
      isplitr; · rw [MayWait_zero]; iempintro
      iexact Ha
    iintro ⟨HO, Ha, -, Hp⟩
    ihave Hs := (Entails.of_eq (rest_recv m ρ c ho)) $$ Hp
    imod (Rounds.cell_close ER (exch m ρ) (Set.mem_univ (K (c, jR o))) (fun h => h) (R := 0 + 1) (duties_later m ρ (recvCell c o))) $$ [Ha] with Hz
    · isplitr; · iapply (inv_recv m ρ K c o); iexact HR
      iexact Ha
    unfold recvPay
    iapply (wp_load_slot c o fullShare (commBuf m ρ) _ rfl) $$ Hs
    iintro Hs
    rw [read_slot]
    iapply Hk
    isplitl [HO]; · iexact HO
    isplitl [Hz]; · iexact Hz
    iexact Hs

/-- A signal to the device `k` places on, handing it the slot of this device's buffer it is to fill. -/
theorem wp_signal_peer (c : Dev nD) (k : Fin 4) (hnc : c ≠ peer c k) {kk : PUnit → Prog (TpuEff nD τ sig (Elt F) Λ₀ .tc) α} {Q : α → sProp 𝕄}
    (f : (cc0_scratch0 : Ref sig .tc).ty.Contents (Elt F)) (O : CellTallies nD τ sig Unit) (W : Waits sig Unit) {n : ℤ} (hn : n = 1) :
    iprop(records m ρ K ∗ owes (c : Thread nD τ) (O + tallyAt (barCell (peer c k)) () 1) W ∗ dutyTok ER (barCell (peer c k)) 0 c
        ∗ slotPts c (peer c k) fullShare f)
      ⊢ iprop((owes (c : Thread nD τ) O W -∗ WP c (kk ⟨⟩) Q) -∗ WP c (.op (.semSignal (peer c k : Thread nD τ) barS n) kk) Q) := by
  subst hn
  iintro ⟨#HR, HO, Ht, Hs⟩ Hk
  iapply (Rounds.wp_signal 𝒱₀ ER (exch m ρ) (c : Thread nD τ) none (dst := (peer c k : Thread nD τ)) (κ := K (peer c k, 0)) (d := c)
      (by rw [duties_bar]; exact Finset.mem_erase.mpr ⟨hnc, Finset.mem_univ _⟩) (amount_bar m ρ (peer c k) c) () O rfl) $$ [HO Ht Hs]
  · isplitr; · iapply (inv_bar m ρ K (peer c k)); iexact HR
    isplitl [HO]; · iexact HO
    isplitl [Ht]; · iexact Ht
    isplitl [Hs]
    · rw [payload_bar]; unfold barPay
      isplitl [Hs]; · iexists f; iexact Hs
      iapply (reached_recv m ρ K c (peer c k)); iexact HR
    · iapply (reached_bar m ρ K (peer c k)); iexact HR
  iexact Hk

/-- A device's buffer as its own slot and those it lends to the other devices. -/
theorem slots_split_peers (c : Dev nD) (f : (cc0_scratch0 : Ref sig .tc).ty.Contents (Elt F)) :
    (commPts c f : sProp 𝕄) = iprop(slotPts c c fullShare f ∗ slotPts c (peer c 1) fullShare f ∗ slotPts c (peer c 2) fullShare f
      ∗ slotPts c (peer c 3) fullShare f) := by
  unfold commPts
  rw [slots_split, bigSep_eq_bigSepL_of_eq [c, peer c 1, peer c 2, peer c 3] (by revert c; decide) (by revert c; decide),
    bigSepL_cons_cons, bigSepL_cons_cons, bigSepL_cons_cons, bigSepL_singleton]
  rfl

/-- The wait for the three units on the device's own barrier cell: the others' slots for this device are its to fill. -/
theorem wp_wait_bar (c : Dev nD) {kk : PUnit → Prog (TpuEff nD τ sig (Elt F) Λ₀ .tc) α} {Q : α → sProp 𝕄} (W : Waits sig Unit)
    {n : ℤ} (hn : n = 3) :
    iprop(records m ρ K ∗ levAts L lv ∗ owes (c : Thread nD τ) (O₃ c) W ∗ atPos ER (barCell c) 0 ∅ 0 ∗ cred (tallyAt (barCell c) () 3))
      ⊢ iprop((∀ W', (owes (c : Thread nD τ) (O₃ c) W' ∗ semVal (barCell c) 0
          ∗ (∃ f, slotPts (peer c 1) c fullShare f) ∗ (∃ f, slotPts (peer c 2) c fullShare f) ∗ (∃ f, slotPts (peer c 3) c fullShare f))
            -∗ WP c (kk ⟨⟩) Q)
        -∗ WP c (.op (.semWait barS n) kk) Q) := by
  subst hn
  iintro ⟨#HR, #Hlev, HO, Ha, Hc⟩ Hk
  iapply (Rounds.wp_wait_rest_token 𝒱₀ ER (exch m ρ) (c : Thread nD τ) none (κ := K (c, 0))
      (wpE_semWait_eq 𝒱₀ (c : Thread nD τ) none Set.univ) (Set.mem_univ _) () (O := O₃ c) (W := W) (R := 0) (m := 0) (T := ∅)
      (by rw [expect_bar])) $$ [Hc HO Ha]
  · isplitr; · iapply (inv_bar m ρ K c); iexact HR
    isplitl [Hc]; · iexact Hc
    isplitl [HO]; · iexact HO
    isplitr; · iapply (mayWait_bar c); iexact Hlev
    iexact Ha
  iintro ⟨HO, Ha, -, Hp⟩
  ihave Hp := (Entails.of_eq (rest_bar m ρ c)) $$ Hp
  unfold barPay
  icases Hp with ⟨⟨H1, -⟩, ⟨H2, -⟩, ⟨H3, -⟩⟩
  imod (Rounds.cell_close ER (exch m ρ) (Set.mem_univ (K (c, 0))) (fun h => h) (R := 0 + 1) (duties_later m ρ (barCell c))) $$ [Ha] with Hz
  · isplitr; · iapply (inv_bar m ρ K c); iexact HR
    iexact Ha
  iapply Hk
  isplitl [HO]; · iexact HO
  isplitl [Hz]; · iexact Hz
  isplitl [H1]; · iexact H1
  isplitl [H2]; · iexact H2
  iexact H3

section Parts

variable (c : Dev nD)

/-- The device's own place, as the body computes it. -/
abbrev place (c : Dev nD) : BitVec 32 := Scalar.remsi (Scalar.divsi (Dev.word c) 1#32) 4#32

theorem wp_part1 {α : Type} {Q : α → sProp 𝕄} {kk : (Σ' (d0 : Dev nD) (v2 : BitVec 32) (v24 : BitVec 32), BitVec 32) → Prog (TpuEff nD τ sig (Elt F) Λ₀ .tc) α}
    (f : (cc0_scratch0 : Ref sig .tc).ty.Contents (Elt F)) (W : Waits sig Unit) :
    iprop(records m ρ K ∗ levAts L lv ∗ owes (c : Thread nD τ) (O₀ c) W
        ∗ (((c : Thread nD τ).loc cc0_stg3_0) ↦{fullShare} wstg m ρ c) ∗ commPts c f
        ∗ (dutyTok ER (barCell (peer c 1)) 0 c ∗ dutyTok ER (barCell (peer c 2)) 0 c ∗ dutyTok ER (barCell (peer c 3)) 0 c)
        ∗ atPos ER (barCell c) 0 ∅ 0 ∗ cred (tallyAt (barCell c) () 3))
      ⊢ iprop((∀ W', (owes (c : Thread nD τ) (O₃ c) W' ∗ (((c : Thread nD τ).loc cc0_stg3_0) ↦{fullShare} wstg m ρ c)
          ∗ slotPts c c fullShare (commBuf m ρ) ∗ semVal (barCell c) 0
          ∗ (∃ f, slotPts (peer c 1) c fullShare f) ∗ (∃ f, slotPts (peer c 2) c fullShare f) ∗ (∃ f, slotPts (peer c 3) c fullShare f))
            -∗ WP c (kk ⟨c, place c, Scalar.remsi (Scalar.addi (place c) 1#32) 4#32, 1#32⟩) Q)
        -∗ WP c (k0_part1 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2 >>= kk) Q) := by
  rw [k0_part1_eq_skeleton]; unfold k0_part1_skel
  simp only [semSignalWord, semWaitWord, Prog.lift, Prog.bind_op, Prog.bind_ret, Prog.pure_eq_ret, wp_deviceId,
    dev1_eq, dev2_eq, dev3_eq]
  obtain ⟨h1, h2, h3⟩ := peer_ne c
  rw [slots_split_peers]
  iintro ⟨#HR, #Hlev, HO, Hw, ⟨Hs, Hs1, Hs2, Hs3⟩, ⟨Ht1, Ht2, Ht3⟩, Ha, Hc⟩ Hk
  iapply (wp_load 𝒱₀ (c : Thread nD τ) none Set.univ (m := Memref.whole cc0_stg3_0) (Finset.subset_univ _)) $$ Hw
  iintro Hw
  rw [read_w]
  iapply (wp_load_slot c c fullShare f _ (k0_off1_eq c)) $$ Hs
  iintro Hs
  iapply (wp_store_slot m ρ c f _ (k0_off1_eq c)) $$ Hs
  iintro Hs
  iapply (wp_signal_peer m ρ K c 1 h1.symm f (O₁ c) W (by decide)) $$ [HO Ht1 Hs1]
  · isplitr; · iexact HR
    isplitl [HO]; · iexact HO
    isplitl [Ht1]; · iexact Ht1
    iexact Hs1
  iintro HO
  iapply (wp_signal_peer m ρ K c 2 h2.symm f (O₂ c) W (by decide)) $$ [HO Ht2 Hs2]
  · isplitr; · iexact HR
    isplitl [HO]; · iexact HO
    isplitl [Ht2]; · iexact Ht2
    iexact Hs2
  iintro HO
  iapply (wp_signal_peer m ρ K c 3 h3.symm f (O₃ c) W (by decide)) $$ [HO Ht3 Hs3]
  · isplitr; · iexact HR
    isplitl [HO]; · iexact HO
    isplitl [Ht3]; · iexact Ht3
    iexact Hs3
  iintro HO
  iapply (wp_wait_bar m ρ K c W (by decide)) $$ [HO Ha Hc]
  · isplitr; · iexact HR
    isplitr; · iexact Hlev
    isplitl [HO]; · iexact HO
    isplitl [Ha]; · iexact Ha
    iexact Hc
  iintro %W' ⟨HO, Hz, H1, H2, H3⟩
  iapply Hk
  isplitl [HO]; · iexact HO
  isplitl [Hw]; · iexact Hw
  isplitl [Hs]; · iexact Hs
  isplitl [Hz]; · iexact Hz
  isplitl [H1]; · iexact H1
  isplitl [H2]; · iexact H2
  iexact H3

/-- `recv_sem` at an offset of the printed form. -/
theorem recv_sem_at (k : Fin 4) (off : Fin 1 → Nat) (h : off = ![k.val]) {inb : ∀ a, off a + S1.size a ≤ S4.size a} :
    ((cc0_scratch2.slice (Rect.unit (s := S4) off S1.size inb)).squeeze S_ squeezes_S1_S_).sem = recvS k := by
  subst h; exact recv_sem k inb

/-- What one send takes: the share of the device's slot lent to it, the peer's slot it fills, and its two tokens; and what the
    device holds once it is on its way. -/
def sendIn (c : Dev nD) (k : Fin 4) : sProp 𝕄 :=
  iprop(slotPts c c (shr k) (commBuf m ρ) ∗ (∃ f, slotPts (peer c k) c fullShare f)
    ∗ dutyTok ER (sendCell c k) 0 0 ∗ dutyTok ER (recvCell (peer c k) c) 0 0)

/-- The unit still owed to device `c + k`'s receive semaphore for `c`. -/
abbrev owed (c : Dev nD) (k : Fin 4) : CellTallies nD τ sig Unit := tallyAt (recvCell (peer c k) c) () N

theorem wp_send_slot' (c n : Dev nD) (k : Fin 4) (hk : k ≠ 0) (hn : n = peer c k) (hnc : c ≠ peer c k)
    (off : Fin 4 → Nat) (h : off = ![c.val, 0, 0, 0]) {inb : ∀ a, off a + S1x2x128x256.size a ≤ S4x2x128x256.size a}
    (sS sR : DmaSem sig) (hS : sS = sendS k) (hR : sR = recvS c) {hsc} {hsrc} {hdst} {hsem}
    {α : Type} {kk : PUnit → Prog (TpuEff nD τ sig (Elt F) Λ₀ .tc) α} {Q : α → sProp 𝕄}
    (O : CellTallies nD τ sig Unit) (W : Waits sig Unit) :
    iprop(records m ρ K ∗ sendIn m ρ c k ∗ owes (c : Thread nD τ) (O + owed c k) W)
      ⊢ iprop(((cred (tallyAt (sendCell c k) () N) ∗ owes (c : Thread nD τ) O W) -∗ WP c (kk ⟨⟩) Q)
        -∗ WP c (.op (.enqueueDma
            ((commM.slice (Rect.unit (s := S4x2x128x256) off S1x2x128x256.size inb) (fun _ => rfl)).squeeze S2x128x256 squeezes_S1x2x128x256_S2x128x256)
            (.remote (Dev.tc n : Thread nD τ)
              ((commM.slice (Rect.unit (s := S4x2x128x256) off S1x2x128x256.size inb) (fun _ => rfl)).squeeze S2x128x256 squeezes_S1x2x128x256_S2x128x256)
              (.dma sS) hsc) (.dma sR) hsrc hdst hsem) kk) Q) := by
  unfold sendIn
  iintro ⟨#HR, ⟨Hs, ⟨%fn, Hd⟩, Ht1, Ht2⟩, HO⟩
  iapply (wp_send_slot m ρ K c n k hk hn hnc off h sS sR hS hR fn O W)
  isplitr; · iexact HR
  isplitl [Hs]; · iexact Hs
  isplitl [Hd]; · iexact Hd
  isplitl [HO]; · iexact HO
  isplitl [Ht1]; · iexact Ht1
  iexact Ht2

/-- The copies to the next device and the one after. -/
theorem wp_part2 {α : Type} {Q : α → sProp 𝕄} (v2 v24 v : BitVec 32) {kk : PUnit → Prog (TpuEff nD τ sig (Elt F) Λ₀ .tc) α} (W : Waits sig Unit) :
    iprop(records m ρ K ∗ owes (c : Thread nD τ) (O₃ c) W ∗ sendIn m ρ c 1 ∗ sendIn m ρ c 2)
      ⊢ iprop(((cred (tallyAt (sendCell c 1) () N) ∗ cred (tallyAt (sendCell c 2) () N) ∗ owes (c : Thread nD τ) (owed c 3) W) -∗ WP c (kk ⟨⟩) Q)
        -∗ WP c (k0_part2 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2 c v2 v24 v >>= kk) Q) := by
  rw [k0_part2_eq_skeleton]; unfold k0_part2_skel
  simp only [Prog.lift, Prog.bind_op, Prog.bind_ret, Prog.pure_eq_ret]
  obtain ⟨h1, h2, h3⟩ := peer_ne c
  iintro ⟨#HR, HO, H1, H2⟩ Hk
  iapply (wp_send_slot' m ρ K c _ 1 (by decide) (dev4_eq c) h1.symm _ (k0_off3_eq c) _ _ (send_sem 1 _) (recv_sem_at c _ (k0_off2_eq c)) (owed c 3 + owed c 2) W) $$ [HO H1]
  · isplitr; · iexact HR
    isplitl [H1]; · iexact H1
    iexact HO
  iintro ⟨Hc1, HO⟩
  iapply (wp_send_slot' m ρ K c _ 2 (by decide) (dev5_eq c) h2.symm _ (k0_off3_eq c) _ _ (send_sem 2 _) (recv_sem_at c _ (k0_off2_eq c)) (owed c 3) W) $$ [HO H2]
  · isplitr; · iexact HR
    isplitl [H2]; · iexact H2
    iexact HO
  iintro ⟨Hc2, HO⟩
  iapply Hk
  isplitl [Hc1]; · iexact Hc1
  isplitl [Hc2]; · iexact Hc2
  iexact HO

/-- The copy to the device before, and the loads of the gating operands. -/
theorem wp_part3 {α : Type} {Q : α → sProp 𝕄} {kk : (Σ' (v61 : FVec F S256x128 .bf16) (v97 : FVec F S256x8 .f32), FVec F S256x8 .f32) → Prog (TpuEff nD τ sig (Elt F) Λ₀ .tc) α}
    (x : (cc0_stg0_0 : Ref sig .tc).ty.Contents (Elt F)) (rw : (cc0_stg1_0 : Ref sig .tc).ty.Contents (Elt F))
    (i : (cc0_stg2_0 : Ref sig .tc).ty.Contents (Elt F)) (W : Waits sig Unit) :
    iprop(records m ρ K ∗ owes (c : Thread nD τ) (owed c 3) W ∗ sendIn m ρ c 3 ∗ (((c : Thread nD τ).loc cc0_stg0_0) ↦{fullShare} x)
        ∗ (((c : Thread nD τ).loc cc0_stg1_0) ↦{fullShare} rw) ∗ (((c : Thread nD τ).loc cc0_stg2_0) ↦{fullShare} i))
      ⊢ iprop(((cred (tallyAt (sendCell c 3) () N) ∗ owes (c : Thread nD τ) 0 W ∗ (((c : Thread nD τ).loc cc0_stg0_0) ↦{fullShare} x)
        ∗ (((c : Thread nD τ).loc cc0_stg1_0) ↦{fullShare} rw) ∗ (((c : Thread nD τ).loc cc0_stg2_0) ↦{fullShare} i))
          -∗ WP c (kk ⟨k0_pay3 x, k0_pay9 x rw (col0 i) (col1 i), k0_pay10 x rw (col0 i) (col1 i)⟩) Q)
        -∗ WP c (k0_part3 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2 c >>= kk) Q) := by
  rw [k0_part3_eq_skeleton]; unfold k0_part3_skel
  simp only [Prog.lift, Prog.bind_op, Prog.bind_ret, Prog.pure_eq_ret]
  obtain ⟨h1, h2, h3⟩ := peer_ne c
  iintro ⟨#HR, HO, H3, Hx, Hr, Hi⟩ Hk
  iapply (wp_send_slot' m ρ K c _ 3 (by decide) (dev6_eq c) h3.symm _ (k0_off3_eq c) _ _ (send_sem 3 _) (recv_sem_at c _ (k0_off2_eq c)) 0 W) $$ [HO H3]
  · isplitr; · iexact HR
    isplitl [H3]; · iexact H3
    rw [zero_add]; iexact HO
  iintro ⟨Hc, HO⟩
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hr; iintro Hr
  iapply (wp_load 𝒱₀ (c : Thread nD τ) none Set.univ (m := Memref.whole cc0_stg2_0) (Finset.subset_univ _)) $$ Hi; iintro Hi
  iapply (wp_load 𝒱₀ (c : Thread nD τ) none Set.univ (m := Memref.whole cc0_stg2_0) (Finset.subset_univ _)) $$ Hi; iintro Hi
  rw [read_x, read_r]
  iapply Hk
  isplitl [Hc]; · iexact Hc
  isplitl [HO]; · iexact HO
  isplitl [Hx]; · iexact Hx
  isplitl [Hr]; · iexact Hr
  iexact Hi

/-- The test before each receive wait: whether the slot is another device's. -/
theorem place_ne (c : Dev nD) :
    (Scalar.cmpi .ne (Scalar.extui (Scalar.cmpi .ne (place c) 0#32) : BitVec 32) 0#32 = 1#1 ↔ (0 : Fin 4) ≠ c)
      ∧ (Scalar.cmpi .ne (Scalar.extui (Scalar.cmpi .ne (place c) 1#32) : BitVec 32) 0#32 = 1#1 ↔ (1 : Fin 4) ≠ c)
      ∧ (Scalar.cmpi .ne (Scalar.extui (Scalar.cmpi .ne (place c) 2#32) : BitVec 32) 0#32 = 1#1 ↔ (2 : Fin 4) ≠ c)
      ∧ (Scalar.cmpi .ne (Scalar.extui (Scalar.cmpi .ne (place c) 3#32) : BitVec 32) 0#32 = 1#1 ↔ (3 : Fin 4) ≠ c) := by
  revert c; decide

/-- What the receive of slot `o` takes. -/
def recvIn (c : Dev nD) (o : Fin 4) : sProp 𝕄 :=
  iprop(cred (tallyAt (recvCell c o) () (due c o)) ∗ atPos ER (recvCell c o) 0 ∅ 0 ∗ slotIn m ρ c o)
def recvOut (c : Dev nD) (o : Fin 4) : sProp 𝕄 := iprop(semVal (recvCell c o) 0 ∗ slotOut m ρ c o)

theorem wp_recv_slot' (c : Dev nD) (o : Fin 4)
    (off : Fin 4 → Nat) (h : off = ![o.val, 0, 0, 0]) {inb : ∀ a, off a + S1x2x128x256.size a ≤ S4x2x128x256.size a}
    (sR : DmaSem sig) (hR : sR = recvS o) (v : BitVec 1) (hv : v = 1#1 ↔ o ≠ c) {hsrc} {hdst}
    {hl : commM.view.LoadsAt (Rect.unit (s := S4x2x128x256) off S1x2x128x256.size inb).toLoadRect} {α : Type}
    {kk : (S1x2x128x256.Idx → Elt F .bf16) → Prog (TpuEff nD τ sig (Elt F) Λ₀ .tc) α} {Q : α → sProp 𝕄} (W : Waits sig Unit) :
    iprop(records m ρ K ∗ owes (c : Thread nD τ) 0 W ∗ recvIn m ρ c o)
      ⊢ iprop((∀ W', (owes (c : Thread nD τ) 0 W' ∗ recvOut m ρ c o) -∗ WP c (kk (k0_pay1 (wstg m ρ o))) Q)
          -∗ WP c (if h : v = 1#1 then (.op (.waitDma2 sR
              ((commM.slice (Rect.unit (s := S4x2x128x256) off S1x2x128x256.size inb) (fun _ => rfl)).squeeze S2x128x256 squeezes_S1x2x128x256_S2x128x256)
              ((commM.slice (Rect.unit (s := S4x2x128x256) off S1x2x128x256.size inb) (fun _ => rfl)).squeeze S2x128x256 squeezes_S1x2x128x256_S2x128x256)
              hsrc hdst) fun _ => .op (.load commM (Rect.unit (s := S4x2x128x256) off S1x2x128x256.size inb).toLoadRect hl) kk)
            else .op (.load commM (Rect.unit (s := S4x2x128x256) off S1x2x128x256.size inb).toLoadRect hl) kk) Q) := by
  unfold recvIn recvOut
  iintro ⟨#HR, HO, Hc, Ha, Hs⟩
  iapply (wp_recv_slot m ρ K c o off h sR hR v hv W)
  isplitr; · iexact HR
  isplitl [Hc]; · iexact Hc
  isplitl [HO]; · iexact HO
  isplitl [Ha]; · iexact Ha
  iexact Hs

/-- The receives of slots 0 and 1. -/
theorem wp_part4 {Q : (Σ' (v126 : FVec F S256x1024 .bf16) (v136 : FVec F S256x256 .f32) (v142 : FVec F S256x256 .bf16), FVec F S256x256 .bf16) → sProp 𝕄}
    (v61 : FVec F S256x128 .bf16) (v97 v99 : FVec F S256x8 .f32) (W : Waits sig Unit) :
    iprop(records m ρ K ∗ owes (c : Thread nD τ) 0 W ∗ recvIn m ρ c 0 ∗ recvIn m ρ c 1)
      ⊢ iprop((∀ W', (owes (c : Thread nD τ) 0 W' ∗ recvOut m ρ c 0 ∗ recvOut m ρ c 1)
          -∗ Q ⟨k0_pay11 v61 v97 v99, k0_pay12 v61 v97 v99 (k0_pay1 (wstg m ρ 0)), k0_pay13 (k0_pay1 (wstg m ρ 1)), k0_pay14 v61 v97 v99⟩)
        -∗ WP c (k0_part4 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2 (place c) v61 v97 v99) Q) := by
  rw [k0_part4_eq_skeleton]; unfold k0_part4_skel
  simp only [Prog.lift, Prog.bind_op, Prog.bind_ret, Prog.pure_eq_ret]
  obtain ⟨h0, h1, h2, h3⟩ := place_ne c
  iintro ⟨#HR, HO, H0, H1⟩ Hk
  iapply (wp_recv_slot' m ρ K c 0 _ rfl _ (recv_sem_at 0 _ rfl) _ h0 W) $$ [HO H0]
  · isplitr; · iexact HR
    isplitl [HO]; · iexact HO
    iexact H0
  iintro %W1 ⟨HO, H0⟩
  iapply (wp_recv_slot' m ρ K c 1 _ rfl _ (recv_sem_at 1 _ rfl) _ h1 W1) $$ [HO H1]
  · isplitr; · iexact HR
    isplitl [HO]; · iexact HO
    iexact H1
  iintro %W2 ⟨HO, H1⟩
  unfold WP; rw [wp_ret]; imodintro
  iapply Hk
  isplitl [HO]; · iexact HO
  isplitl [H0]; · iexact H0
  iexact H1

/-- The receives of slots 2 and 3, the store of the output and the wait for the first copy to have left. -/
theorem wp_part5 {Q : PUnit → sProp 𝕄} (v126 : FVec F S256x1024 .bf16) (v136 : FVec F S256x256 .f32) (v142 v143 : FVec F S256x256 .bf16)
    (fo : (cc0_stg4_0 : Ref sig .tc).ty.Contents (Elt F)) (W : Waits sig Unit) :
    iprop(records m ρ K ∗ owes (c : Thread nD τ) 0 W ∗ recvIn m ρ c 2 ∗ recvIn m ρ c 3 ∗ (((c : Thread nD τ).loc cc0_stg4_0) ↦{fullShare} fo)
        ∗ cred (tallyAt (sendCell c 1) () N) ∗ atPos ER (sendCell c 1) 0 ∅ 0)
      ⊢ iprop((∀ W', (owes (c : Thread nD τ) 0 W' ∗ recvOut m ρ c 2 ∗ recvOut m ρ c 3
          ∗ (((c : Thread nD τ).loc cc0_stg4_0) ↦{fullShare} k0_pay15 v126 v136 v142 v143 (k0_pay1 (wstg m ρ 2)) (k0_pay1 (wstg m ρ 3)))
          ∗ semVal (sendCell c 1) 0 ∗ slotPts c c (shr 1) (commBuf m ρ)) -∗ Q ⟨⟩)
        -∗ WP c (k0_part5 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2 c (place c) v126 v136 v142 v143) Q) := by
  rw [k0_part5_eq_skeleton]; unfold k0_part5_skel
  simp only [Prog.lift, Prog.bind_op, Prog.bind_ret, Prog.pure_eq_ret]
  obtain ⟨h0, h1, h2, h3⟩ := place_ne c
  iintro ⟨#HR, HO, H2, H3, Hout, Hc, Ha⟩ Hk
  iapply (wp_recv_slot' m ρ K c 2 _ rfl _ (recv_sem_at 2 _ rfl) _ h2 W) $$ [HO H2]
  · isplitr; · iexact HR
    isplitl [HO]; · iexact HO
    iexact H2
  iintro %W1 ⟨HO, H2⟩
  iapply (wp_recv_slot' m ρ K c 3 _ rfl _ (recv_sem_at 3 _ rfl) _ h3 W1) $$ [HO H3]
  · isplitr; · iexact HR
    isplitl [HO]; · iexact HO
    iexact H3
  iintro %W2 ⟨HO, H3⟩
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := Rect.unit (s := S256x256) ![0, 0] S256x256.size inb_S256x256_S256x256_0_0)
    (Mk := Finset.univ) (Finset.subset_univ _)) $$ Hout; iintro Hout
  rw [write_out]
  iapply (wp_wait_sent m ρ K c 1 (by decide) _ (k0_off3_eq c) _ (send_sem 1 _) W2) $$ [HO Hc Ha]
  · isplitr; · iexact HR
    isplitl [Hc]; · iexact Hc
    isplitl [HO]; · iexact HO
    iexact Ha
  iintro %W3 ⟨HO, Hz, Hs⟩
  unfold WP; rw [wp_ret]; imodintro
  iapply Hk
  isplitl [HO]; · iexact HO
  isplitl [H2]; · iexact H2
  isplitl [H3]; · iexact H3
  isplitl [Hout]; · iexact Hout
  isplitl [Hz]; · iexact Hz
  iexact Hs

end Parts

/-! ### The whole body -/

/-- A separating conjunction over the four slots, in order or starting from the device's own. -/
theorem four_slots (c : Dev nD) (Φ : Fin 4 → sProp 𝕄) :
    iprop(Φ 0 ∗ Φ 1 ∗ Φ 2 ∗ Φ 3) = iprop(Φ c ∗ Φ (peer c 1) ∗ Φ (peer c 2) ∗ Φ (peer c 3)) := by
  have h1 := bigSep_eq_bigSepL_of_eq (S := Finset.univ) [(0 : Fin 4), 1, 2, 3] (by decide) (by decide) Φ
  have h2 := bigSep_eq_bigSepL_of_eq (S := Finset.univ) [c, peer c 1, peer c 2, peer c 3] (by revert c; decide) (by revert c; decide) Φ
  simp only [bigSepL_cons_cons, bigSepL_singleton] at h1 h2
  exact h1.symm.trans h2

/-- The kept share of the device's own slot is all the four receives need beforehand. -/
theorem slotIn_intro (c : Dev nD) : slotPts c c (shr 0) (commBuf m ρ) ⊢ iprop(slotIn m ρ c 0 ∗ slotIn m ρ c 1 ∗ slotIn m ρ c 2 ∗ slotIn m ρ c 3) := by
  rw [four_slots c (slotIn m ρ c)]
  obtain ⟨h1, h2, h3⟩ := peer_ne c
  unfold slotIn
  rw [if_pos rfl, if_neg h1, if_neg h2, if_neg h3]
  iintro H
  isplitl [H]; · iexact H
  isplitr; · iempintro
  isplitr; · iempintro
  iempintro

/-- The four slots after the receives and the shares the copies returned make the whole buffer again. -/
theorem slotOut_elim (c : Dev nD) :
    iprop((slotOut m ρ c 0 ∗ slotOut m ρ c 1 ∗ slotOut m ρ c 2 ∗ slotOut m ρ c 3)
        ∗ slotPts c c (shr 1) (commBuf m ρ) ∗ slotPts c c (shr 2) (commBuf m ρ) ∗ slotPts c c (shr 3) (commBuf m ρ))
      ⊢ commPts c (commBuf m ρ) := by
  rw [four_slots c (slotOut m ρ c), slots_split_peers]
  obtain ⟨h1, h2, h3⟩ := peer_ne c
  unfold slotOut
  rw [if_pos rfl, if_neg h1, if_neg h2, if_neg h3]
  iintro ⟨⟨H, H1, H2, H3⟩, Hs1, Hs2, Hs3⟩
  isplitl [H Hs1 Hs2 Hs3]
  · iapply (shares_split c c (commBuf m ρ)).2
    isplitl [H]; · iexact H
    isplitl [Hs1]; · iexact Hs1
    isplitl [Hs2]; · iexact Hs2
    iexact Hs3
  isplitl [H1]; · iexact H1
  isplitl [H2]; · iexact H2
  iexact H3

set_option maxHeartbeats 1600000 in
/-- The body, executed from `bodyPre`, part by part in program order, to `bodyPost`. -/
theorem sound_body (c : Dev nD) (Kt : PUnit → sProp 𝕄) :
    iprop(bodyPre m ρ K c ∗ (bodyPost m ρ c -∗ Kt ⟨⟩)) ⊢ WP c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2) Kt := by
  rw [cc0_body_eq_skeleton]; unfold cc0_body_skel
  unfold bodyPre ghost posns toks creds
  iintro ⟨⟨⟨⟨#HR, ⟨HaB, ⟨HaS0, HaS1, HaS2, HaS3⟩, HaR0, HaR1, HaR2, HaR3⟩, HtB, ⟨HtR1, HtR2, HtR3⟩, HtS1, HtS2, HtS3⟩,
    ⟨HcB, HcR0, HcR1, HcR2, HcR3⟩, #Hlev, ⟨%f0, Hcomm⟩⟩, Ho,
    ⟨%d0, %g0, %hg0, Hx⟩, ⟨%d1, %g1, %hg1, Hr⟩, ⟨%d2, %g2, %hg2, Hi⟩, ⟨%d3, %g3, %hg3, Hw⟩, ⟨%d4, %g4, %hg4, Hout⟩⟩, Hk⟩
  have hx : g0 = xstg m ρ c := by rw [hg0]; unfold Dat.before; rw [if_pos (fetch0_0 t0_0)]; rfl
  have hr : g1 = rstg m ρ c := by rw [hg1]; unfold Dat.before; rw [if_pos (fetch0_1 t0_0)]; rfl
  have hi : g2 = istg m ρ c := by rw [hg2]; unfold Dat.before; rw [if_pos (fetch0_2 t0_0)]; rfl
  have hw : g3 = wstg m ρ c := by rw [hg3]; unfold Dat.before; rw [if_pos (fetch0_3 t0_0)]; rfl
  subst hx hr hi hw
  unfold Dat.owesAt Pipeline.owesWithin
  icases Ho with ⟨%W, %hW, HO⟩
  rw [show (dats m ρ 0 c).owed t0_0.castSucc = O₀ c from rfl]
  iapply (wp_part1 m ρ K c f0 W) $$ [HO Hw Hcomm HtB HaB HcB]
  · isplitr; · iexact HR
    isplitr; · iexact Hlev
    isplitl [HO]; · iexact HO
    isplitl [Hw]; · iexact Hw
    isplitl [Hcomm]; · iexact Hcomm
    isplitl [HtB]; · iexact HtB
    isplitl [HaB]; · iexact HaB
    iexact HcB
  iintro %W1 ⟨HO, Hw, Hs, HzB, Hd1, Hd2, Hd3⟩
  ihave Hs := (shares_split c c (commBuf m ρ)).1 $$ Hs
  icases Hs with ⟨Hs0, Hs1, Hs2, Hs3⟩
  iapply (wp_part2 m ρ K c _ _ _ W1) $$ [HO Hs1 Hd1 HtS1 HtR1 Hs2 Hd2 HtS2 HtR2]
  · isplitr; · iexact HR
    isplitl [HO]; · iexact HO
    unfold sendIn
    isplitl [Hs1 Hd1 HtS1 HtR1]
    · isplitl [Hs1]; · iexact Hs1
      isplitl [Hd1]; · iexact Hd1
      isplitl [HtS1]; · iexact HtS1
      iexact HtR1
    · isplitl [Hs2]; · iexact Hs2
      isplitl [Hd2]; · iexact Hd2
      isplitl [HtS2]; · iexact HtS2
      iexact HtR2
  iintro ⟨HcS1, HcS2, HO⟩
  iapply (wp_part3 m ρ K c (xstg m ρ c) (rstg m ρ c) (istg m ρ c) W1) $$ [HO Hs3 Hd3 HtS3 HtR3 Hx Hr Hi]
  · isplitr; · iexact HR
    isplitl [HO]; · iexact HO
    unfold sendIn
    isplitl [Hs3 Hd3 HtS3 HtR3]
    · isplitl [Hs3]; · iexact Hs3
      isplitl [Hd3]; · iexact Hd3
      isplitl [HtS3]; · iexact HtS3
      iexact HtR3
    isplitl [Hx]; · iexact Hx
    isplitl [Hr]; · iexact Hr
    iexact Hi
  iintro ⟨HcS3, HO, Hx, Hr, Hi⟩
  ihave Hs0 := (slotIn_intro m ρ c) $$ Hs0
  icases Hs0 with ⟨Hi0, Hi1, Hi2, Hi3⟩
  unfold WP
  rw [wp_bind]
  iapply (wp_part4 m ρ K c _ _ _ W1) $$ [HO HcR0 HaR0 Hi0 HcR1 HaR1 Hi1]
  · isplitr; · iexact HR
    isplitl [HO]; · iexact HO
    unfold recvIn
    isplitl [HcR0 HaR0 Hi0]
    · isplitl [HcR0]; · iexact HcR0
      isplitl [HaR0]; · iexact HaR0
      iexact Hi0
    · isplitl [HcR1]; · iexact HcR1
      isplitl [HaR1]; · iexact HaR1
      iexact Hi1
  iintro %W2 ⟨HO, Ho0, Ho1⟩
  rw [wp_bind]
  iapply (wp_part5 m ρ K c _ _ _ _ g4 W2) $$ [HO HcR2 HaR2 Hi2 HcR3 HaR3 Hi3 Hout HcS1 HaS1]
  · isplitr; · iexact HR
    isplitl [HO]; · iexact HO
    unfold recvIn
    isplitl [HcR2 HaR2 Hi2]
    · isplitl [HcR2]; · iexact HcR2
      isplitl [HaR2]; · iexact HaR2
      iexact Hi2
    isplitl [HcR3 HaR3 Hi3]
    · isplitl [HcR3]; · iexact HcR3
      isplitl [HaR3]; · iexact HaR3
      iexact Hi3
    isplitl [Hout]; · iexact Hout
    isplitl [HcS1]; · iexact HcS1
    iexact HaS1
  iintro %W3 ⟨HO, Ho2, Ho3, Hout, HzS1, Hs1⟩
  simp only [Prog.lift, Prog.bind_op, Prog.bind_ret, Prog.pure_eq_ret]
  iapply (wp_wait_sent m ρ K c 2 (by decide) _ (k0_off3_eq c) _ (send_sem 2 _) W3) $$ [HO HcS2 HaS2]
  · isplitr; · iexact HR
    isplitl [HcS2]; · iexact HcS2
    isplitl [HO]; · iexact HO
    iexact HaS2
  iintro %W4 ⟨HO, HzS2, Hs2⟩
  iapply (wp_wait_sent m ρ K c 3 (by decide) _ (k0_off3_eq c) _ (send_sem 3 _) W4) $$ [HO HcS3 HaS3]
  · isplitr; · iexact HR
    isplitl [HcS3]; · iexact HcS3
    isplitl [HO]; · iexact HO
    iexact HaS3
  iintro %W5 ⟨HO, HzS3, Hs3⟩
  -- the cell no copy uses closes at round 0, which has no duty there
  imod (Rounds.cell_close ER (exch m ρ) (Set.mem_univ (K (c, jS 0))) (fun h => h) (R := 0) (duties_send_none m ρ c)) $$ [HaS0] with HzS0
  · isplitr; · iapply (inv_send m ρ K c 0); iexact HR
    iexact HaS0
  rw [wp_ret]; imodintro
  iapply Hk
  unfold bodyPost Φ₁ ownZero recvOut Dat.owesAt Pipeline.owesWithin
  rw [show (dats m ρ 0 c).owed t0_0.succ = 0 from rfl]
  icases Ho0 with ⟨HzR0, Ho0⟩
  icases Ho1 with ⟨HzR1, Ho1⟩
  icases Ho2 with ⟨HzR2, Ho2⟩
  icases Ho3 with ⟨HzR3, Ho3⟩
  isplitl [HzS0 HzS1 HzS2 HzS3 HzR0 HzR1 HzR2 HzR3 HzB Ho0 Ho1 Ho2 Ho3 Hs1 Hs2 Hs3]
  · isplitl [Ho0 Ho1 Ho2 Ho3 Hs1 Hs2 Hs3]
    · iapply (slotOut_elim m ρ c)
      isplitl [Ho0 Ho1 Ho2 Ho3]
      · isplitl [Ho0]; · iexact Ho0
        isplitl [Ho1]; · iexact Ho1
        isplitl [Ho2]; · iexact Ho2
        iexact Ho3
      isplitl [Hs1]; · iexact Hs1
      isplitl [Hs2]; · iexact Hs2
      iexact Hs3
    isplitl [HzS0 HzS1 HzS2 HzS3 HzR0 HzR1 HzR2 HzR3]
    · isplitl [HzS0 HzS1 HzS2 HzS3]
      · isplitl [HzS0]; · iexact HzS0
        isplitl [HzS1]; · iexact HzS1
        isplitl [HzS2]; · iexact HzS2
        iexact HzS3
      · isplitl [HzR0]; · iexact HzR0
        isplitl [HzR1]; · iexact HzR1
        isplitl [HzR2]; · iexact HzR2
        iexact HzR3
    · iexact HzB
  isplitl [HO]
  · iexists W5
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [Hw]
  · iexists _; isplitr; · (ipureintro; rfl)
    iexact Hw
  iexists _; isplitr; · (ipureintro; rfl)
  iexact Hout

def bodyPre' (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 4000 in
/-- The pipeline's obligation of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ WP c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2) (fun _ => bodyPost m ρ c)
  unfold bodyPre' Φ₀ start
  iintro ⟨⟨⟨⟨%K, Hg⟩, Hc, Hlev⟩, Hf⟩, Hrest⟩
  iapply (sound_body m ρ K c fun _ => bodyPost m ρ c)
  unfold bodyPre
  isplitr []
  · isplitl [Hg Hc Hlev Hf]
    · isplitl [Hg]; · iexact Hg
      isplitl [Hc]; · iexact Hc
      isplitl [Hlev]; · iexact Hlev
      iexact Hf
    iexact Hrest
  · iintro H; iexact H

end Body

end Cert.Moe

end
-- ==== Proof.Run.lean ====
/-
# The launch, and the whole run

Every device's nine cells are given their protocol together, each device gets the tokens of the duties it pays, and the
launch theorem of the pipeline library turns the body's run on one device into the run of the whole mesh, for any float
values.
-/
module

public import proofs.«01_k».proof.Proof.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted at launch -/

/-- The kernel's own eight semaphores: all the listed ones but the barrier. -/
abbrev ownSem (j : Fin 8) : SemLoc sig := csem j.succ

theorem ownSem_facts : Pipeline.OwnSemFacts cfg0.spec ownSem := by decide

theorem share_whole (c : Dev nD) (w : Fin cfg0.W) : (dats m ρ 0 c).share w = fullShare := by unfold Dat.share; split <;> rfl

theorem csem_injective : Function.Injective csem := by decide
theorem kcell_injective : Function.Injective kcell := fun a b h =>
  Prod.ext (congrArg (fun g : GSem nD τ sig => g.1.1) h) (csem_injective (congrArg Prod.snd h))

/-- The cells of all devices. -/
def allCells : Finset (GSem nD τ sig) := Finset.univ.map ⟨kcell, kcell_injective⟩

/-- The duties device `c` pays, listed: its unit on each other device's barrier, its copy on each other device's receive
    semaphore, the same copy on its own send semaphore. -/
def payOn (c : Dev nD) (j : Fin 9) : Dev nD × Fin 9 × Dev nD := match j with
  | 0 => (peer c 1, 0, c) | 1 => (peer c 2, 0, c) | 2 => (peer c 3, 0, c)
  | 3 => (peer c 1, jR c, 0) | 4 => (peer c 2, jR c, 0) | 5 => (peer c 3, jR c, 0)
  | 6 => (c, jS 1, 0) | 7 => (c, jS 2, 0) | 8 => (c, jS 3, 0)
theorem payOn_injective : Function.Injective fun cj : Dev nD × Fin 9 => payOn cj.1 cj.2 := by decide +kernel

/-- The token of a duty by its payer. -/
def tokOf (cj : Dev nD × Fin 9) : GSem nD τ sig × ℕ × Dev nD :=
  (kcell ((payOn cj.1 cj.2).1, (payOn cj.1 cj.2).2.1), 0, (payOn cj.1 cj.2).2.2)
theorem tokOf_injective : Function.Injective tokOf := fun a b h => payOn_injective (by
  have h1 := kcell_injective (congrArg Prod.fst h)
  have h2 : (payOn a.1 a.2).2.2 = (payOn b.1 b.2).2.2 := congrArg (fun x : GSem nD τ sig × ℕ × Dev nD => x.2.2) h
  exact Prod.ext (Prod.mk.inj h1).1 (Prod.ext (Prod.mk.inj h1).2 h2))
def allToks : Finset (GSem nD τ sig × ℕ × Dev nD) := Finset.univ.map ⟨tokOf, tokOf_injective⟩

/-- The launch element: the pipeline's, and the exchange's. -/
def u₀ : UU :=
  (initOf (Pipeline.cells cfgs cellOf_inj) (Pipeline.launchToks cfgs cellOf_inj), initOf allCells allToks)

theorem bigSep_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The positions of a device's nine cells, grouped by use. -/
theorem posns_of_nine (c : Dev nD) : (bigSep Finset.univ fun k : Fin 9 => (atPos ER (kcell (c, k)) 0 ∅ 0 : sProp 𝕄)) ⊢ posns c := by
  rw [bigSep_nine]; unfold posns
  simp only [← kcell_send, ← kcell_recv, ← kcell_bar]
  iintro ⟨H0, H1, H2, H3, H4, H5, H6, H7, H8⟩
  isplitl [H0]; · iexact H0
  isplitl [H1 H2 H3 H4]
  · isplitl [H1]; · iexact H1
    isplitl [H2]; · iexact H2
    isplitl [H3]; · iexact H3
    iexact H4
  · isplitl [H5]; · iexact H5
    isplitl [H6]; · iexact H6
    isplitl [H7]; · iexact H7
    iexact H8

/-- The tokens minted under a payer's name are those it pays with. -/
theorem toks_of_nine (c : Dev nD) :
    (bigSep Finset.univ fun j : Fin 9 => (dutyTok ER (tokOf (c, j)).1 (tokOf (c, j)).2.1 (tokOf (c, j)).2.2 : sProp 𝕄)) ⊢ toks c := by
  rw [bigSep_nine]; unfold toks
  simp only [← kcell_send, ← kcell_recv, ← kcell_bar]
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

/-- What the launch element deals device `c`: its cells' round states, its positions, its tokens. -/
def dealt (c : Dev nD) : sProp 𝕄 :=
  iprop((bigSep Finset.univ fun k : Fin 9 => roundState ER (exch m ρ) (kcell (c, k)) 0)
    ∗ (bigSep Finset.univ fun k : Fin 9 => atPos ER (kcell (c, k)) 0 ∅ 0)
    ∗ (bigSep Finset.univ fun k : Fin 9 => reached ER (kcell (c, k)) 0) ∗ toks c)

/-- What the device holds once every device's cells have their invariants. -/
def held (c : Dev nD) : sProp 𝕄 := iprop(∃ K, ghost m ρ K c)

theorem fund_exch : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_of_nine c
  iintro HX
  imod (Rounds.fund ER (exch m ρ) allCells allToks) $$ HX with ⟨Hst, Hr, Hat, Htok⟩
  imodintro
  ihave Hst' := (Entails.of_eq (hX fun g => roundState ER (exch m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold dealt; simp only [bigSep_sep']
  isplitl [Hst']; · iexact Hst'
  isplitl [Hat']; · iexact Hat'
  isplitl [Hr']; · iexact Hr'
  iexact Htok'

/-! ## The semaphores at zero, given to the cells' invariants -/

theorem ownSems0_eq (c : Dev nD) :
    (Pipeline.ownSems0 (Ix := Unit) (Name := ℕ) (U := UU) (Lvl := ℕ) (Val := Elt F) (τ := τ) ownSem c : sProp 𝕄)
      = iprop(semVal (kcell (c, 1)) 0 ∗ semVal (kcell (c, 2)) 0 ∗ semVal (kcell (c, 3)) 0 ∗ semVal (kcell (c, 4)) 0
          ∗ semVal (kcell (c, 5)) 0 ∗ semVal (kcell (c, 6)) 0 ∗ semVal (kcell (c, 7)) 0 ∗ semVal (kcell (c, 8)) 0) := by
  rw [Pipeline.ownSems0_eq_of_list c ownSem [0, 1, 2, 3, 4, 5, 6, 7] (by decide) (by decide)]; rfl
/-- The barrier semaphore is the one semaphore the launch leaves unscoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_nine (c : Dev nD) :
    iprop(Pipeline.ownSems0 (Ix := Unit) (Name := ℕ) (U := UU) (Lvl := ℕ) (Val := Elt F) (τ := τ) ownSem c ∗ unscopedSems0 c)
      ⊢ (bigSep Finset.univ fun k : Fin 9 => semVal (kcell (c, k)) 0 : sProp 𝕄) := by
  rw [ownSems0_eq, unscopedSems0_eq, bigSep_nine]
  iintro ⟨H, HB⟩
  isplitl [HB]; · iexact HB
  iexact H

/-- One device's cells allocated. -/
theorem alloc_device (c : Dev nD) :
    iprop(Pipeline.ownSems0 (Ix := Unit) (Name := ℕ) (U := UU) (Lvl := ℕ) (Val := Elt F) (τ := τ) ownSem c ∗ unscopedSems0 c ∗ dealt m ρ c)
      ⊢ |={Set.univ}=> iprop((bigSep Finset.univ fun k => iprop(∃ κ : ℕ, cellInv ER (exch m ρ) κ (kcell (c, k))))
          ∗ (bigSep Finset.univ fun k : Fin 9 => reached ER (kcell (c, k)) 0) ∗ posns c ∗ toks c) := by
  unfold dealt
  iintro ⟨Hos, Hus, Hst, Hat, Hr, Htok⟩
  ihave Hv := (sems_nine (F := F) c) $$ [Hos Hus]
  · isplitl [Hos] <;> iassumption
  have hinv : iprop((bigSep Finset.univ fun k : Fin 9 => semVal (kcell (c, k)) 0) ∗ bigSep Finset.univ fun k : Fin 9 => roundState ER (exch m ρ) (kcell (c, k)) 0)
      ⊢ (|={Set.univ}=> bigSep Finset.univ fun k => iprop(∃ κ : ℕ, cellInv ER (exch m ρ) κ (kcell (c, k))) : sProp 𝕄) := by
    rw [← bigSep_sep']
    exact (bigSep_mono fun k _ => (Rounds.body_intro ER (exch m ρ) (kcell (c, k))).trans inv_alloc).trans (bigSep_fupd _ _)
  imod hinv $$ [Hv Hst] with Hinv
  · isplitl [Hv] <;> iassumption
  imodintro
  isplitl [Hinv]; · iexact Hinv
  isplitl [Hr]; · iexact Hr
  isplitl [Hat]; · iapply (posns_of_nine c); iexact Hat
  iexact Htok

/-- A persistent record is dealt to every summand. -/
theorem bigSep_deal {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device's records gathered, and dealt to all. -/
theorem gather :
    (bigSep Finset.univ fun c : Dev nD => iprop((bigSep Finset.univ fun k => iprop(∃ κ : ℕ, cellInv ER (exch m ρ) κ (kcell (c, k))))
          ∗ (bigSep Finset.univ fun k : Fin 9 => reached ER (kcell (c, k)) 0) ∗ posns c ∗ toks c) : sProp 𝕄)
      ⊢ bigSep Finset.univ (held m ρ) := by
  rw [bigSep_sep', bigSep_sep', ← bigSep_univ_prod (fun cj : Dev nD × Fin 9 => iprop(∃ κ : ℕ, cellInv ER (exch m ρ) κ (kcell cj))),
    ← bigSep_univ_prod (fun cj : Dev nD × Fin 9 => (reached ER (kcell cj) 0 : sProp 𝕄))]
  iintro ⟨HI, #HR, Hlin⟩
  ihave HK := (BI.bigSep_exists_pi Finset.univ (fun (cj : Dev nD × Fin 9) (κ : ℕ) => (cellInv ER (exch m ρ) κ (kcell cj) : sProp 𝕄))) $$ HI
  icases HK with ⟨%K, #HI⟩
  iapply (bigSep_deal (R := records m ρ K) (Φ := fun c => iprop(posns c ∗ toks c)) fun c _ => by
    unfold held ghost
    iintro ⟨#H, Hl⟩
    iexists K
    isplitr; · iexact H
    iexact Hl)
  isplitr
  · unfold records; isplitl; · iexact HI
    iexact HR
  iexact Hlin

/-- All devices' cells allocated under one update. -/
theorem alloc_all :
    (bigSep Finset.univ fun c => iprop(Pipeline.ownSems0 (Ix := Unit) (Name := ℕ) (U := UU) (Lvl := ℕ) (Val := Elt F) (τ := τ) ownSem c
        ∗ unscopedSems0 c ∗ dealt m ρ c) : sProp 𝕄)
      ⊢ |={Set.univ}=> bigSep Finset.univ (held m ρ) :=
  ((bigSep_mono fun c _ => alloc_device m ρ c).trans (bigSep_fupd _ _)).trans (BI.fupd_mono (gather m ρ))

/-! ## The credit the launch deals -/

theorem bar_eq_iff {a b : Dev nD} : Iff (barCell a = barCell b) (a = b) :=
  ⟨fun h => congrArg (fun g : GSem nD τ sig => g.1.1) h, fun h => h ▸ rfl⟩
theorem recvS_injective : Function.Injective recvS := by decide
theorem recv_eq_iff {a b : Dev nD} {o p : Fin 4} : Iff (recvCell a o = recvCell b p) (a = b ∧ o = p) :=
  ⟨fun h => ⟨congrArg (fun g : GSem nD τ sig => g.1.1) h, recvS_injective (SemLoc.dma.inj (congrArg Prod.snd h))⟩,
    fun ⟨h1, h2⟩ => h1 ▸ h2 ▸ rfl⟩
theorem bar_ne_recv {a b : Dev nD} {o : Fin 4} : barCell a ≠ recvCell b o := fun h => absurd (congrArg Prod.snd h) (by simp)

/-- Device `d` owes each other device's barrier cell a unit; -/
theorem owed_bar (d c : Dev nD) : O₀ d (barCell c) () = if d ≠ c then 1 else 0 := by
  unfold O₀ O₁ O₂ O₃
  simp only [Pi.add_apply, Finsupp.add_apply, tallyAt_apply, bar_ne_recv, bar_eq_iff, and_true, false_and, if_false, Nat.zero_add]
  revert d c; decide

/-- and each other device's receive cell for `d` one copy's credit. -/
theorem owed_recv (d c : Dev nD) (o : Fin 4) : O₀ d (recvCell c o) () = N * if o = d ∧ c ≠ d then 1 else 0 := by
  have hmul (p : Prop) [Decidable p] : (if p then N else 0) = N * if p then 1 else 0 := by split <;> simp
  unfold O₀ O₁ O₂ O₃
  simp only [Pi.add_apply, Finsupp.add_apply, tallyAt_apply, bar_ne_recv.symm, recv_eq_iff, and_true, false_and, if_false, Nat.add_zero, hmul, ← Nat.mul_add]
  congr 1
  revert d c o; decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (o : Fin 4) :
    tallyOn (recvCell c o) (launchCredit (Pipeline.owing O₀) 0 (recvCell c o)) = (tallyAt (recvCell c o) () (due c o) : CellTallies nD τ sig Unit) := by
  unfold tallyAt; refine congrArg _ (Finsupp.ext fun u => ?_); cases u
  rw [Pipeline.launchCredit_owing, Finsupp.single_eq_same, Finset.sum_congr rfl fun d _ => owed_recv d c o, ← Finset.mul_sum,
    show (∑ d : Dev nD, if o = d ∧ c ≠ d then 1 else 0) = if o = c then 0 else 1 from by revert c o; decide]
  unfold due; split <;> simp

/-- The credits a device waits with, out of all it is dealt. -/
theorem creds_intro (c : Dev nD) : (Pipeline.launchCred O₀ c : sProp 𝕄) ⊢ creds c := by
  unfold Pipeline.launchCred creds
  refine (bigSep_subset (t := {SemLoc.reg barS, .dma (recvS 0), .dma (recvS 1), .dma (recvS 2), .dma (recvS 3)}) (Finset.subset_univ _)).trans ?_
  rw [bigSep_eq_bigSepL_of_eq [SemLoc.reg barS, .dma (recvS 0), .dma (recvS 1), .dma (recvS 2), .dma (recvS 3)] (by decide) (by decide)]
  simp only [bigSepL_cons_cons, bigSepL_singleton, launch_bar, launch_recv]
  exact BI.Entails.refl _

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held m ρ c)
      ⊢ |={Set.univ}=> iprop(start m ρ c ∗ emp) := by
  iintro ⟨-, Hlev, Hcr, -, HG⟩
  ihave Hc := (creds_intro (F := F) c) $$ Hcr
  imodintro
  unfold start held
  isplitl
  · isplitl [HG]; · iexact HG
    isplitl [Hc]; · iexact Hc
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ commPts
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ m ρ c from rfl, scopedRest0_eq, ownSems0_eq, unscopedSems0_eq]
  unfold Φ₁ commPts ownZero
  simp only [← kcell_send, ← kcell_recv]
  iintro ⟨Hr, ⟨⟨H0, H1, H2, H3⟩, H4⟩, HB⟩
  isplitl [HB]; · iexact HB
  isplitl [H0 H1 H2 H3 H4]
  · isplitl [H0]; · iexact H0
    isplitl [H1]; · iexact H1
    isplitl [H2]; · iexact H2
    isplitl [H3]; · iexact H3
    iexact H4
  iexists (commBuf m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of a window's array on device `c` after the run. -/
def finalA (c : Dev nD) (w : Fin cfg0.W) : Buf (Elt F) ((cfg0.win w).arr.view.loc (c : Thread nD τ)) := (dats m ρ 0 c).arrAt w cfg0.N

def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero the kernel on the four devices terminates, for any float values, with every
    window's array at the contents `finalA` and every semaphore at zero again. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_whole m ρ)
    (hdistinct := winFacts0.arr_inj)
    (O₀ := O₀) (howed₀ := fun _ => rfl) (howedN := fun _ => rfl)
    (L := L) (lv := lv) (hL := L_of_ne) (hwaits := waits m ρ)
    (G := dealt m ρ) (G' := held m ρ) (u₀ := u₀)
    (hu₀ := by
      unfold u₀
      iintro Hu
      ihave H := (ownU_pair _ _) $$ Hu
      icases H with ⟨HP, HX⟩
      imod (fund_exch m ρ) $$ HX with HG
      imodintro
      isplitl [HP] <;> iassumption)
    (hglob := alloc_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
  What every array holds when the kernel has run, and the frames: the four operands are what they were, the result is what
  the body left in the result's buffer, every semaphore is at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Moe

open Cert.KernelIdeal Cert.KernelIdeal.Gen Idealize.ShloMosaic Idealize.SL.Sem
open Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

/-- An operand's array ends as it began. -/
theorem finalA_in (c : Dev nD) (w : Fin cfg0.W) (h : (cfg0.win w).isOut = false) :
    finalA m ρ c w = m ((cfg0.win w).arr.view.loc (c : Thread nD τ)) :=
  (dats m ρ 0 c).arrAt_in w h _

/-- The result's one block, which is the whole array, read back is what the body left in the result's buffer. -/
theorem finalA_out (c : Dev nD) :
    (win0_4.blk (0 : Fin 1)).view.read (Elt F) (finalA m ρ c (4 : Fin 5)) = outAt m ρ c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- After the run the four operands of every device are what they were. -/
theorem args_kept (c : Dev nD) {r : PUnit × MemSt nD τ sig (Elt F)} (h : Final m ρ r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h c 0).trans (finalA_in m ρ c 0 rfl), (h c 1).trans (finalA_in m ρ c 1 rfl),
    (h c 2).trans (finalA_in m ρ c 2 rfl), (h c 3).trans (finalA_in m ρ c 3 rfl)⟩

end Cert.Moe

namespace Cert.Proof

open Idealize.ShloMosaic Idealize.SL.Sem Cert.Moe

/-- Over any float values the kernel terminates without fault, its operands unchanged, its semaphores at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => args_kept m ρ c h.1, h.2⟩) (run_main m ρ)

/-- The two printings of the kernel have one body table. -/
theorem defs_eq {F : FTy → Type} [FloatOps F] : Cert.Kernel.defs (F := F) = Cert.KernelIdeal.defs (F := F) := by
  have h : Cert.Kernel.defs₀ (F := F) = Cert.KernelIdeal.defs₀ (F := F) := by
    refine congrArg Defs.onTc (funext fun l => funext fun a => ?_)
    match l, a with
    | 0, (t, s) => rfl
    | ⟨_ + 1, h⟩, _ => exact absurd h (Nat.not_lt.2 (Nat.le_add_left _ _))
  exact congrArg (Pipeline.defs (Cert.KernelIdeal.pcfgs (F := F))) h

/-- The kernel as printed terminates without fault, its operands unchanged, its semaphores at zero. -/
theorem frame_kernel : Cert.quiescent_Kernel := by
  intro m ρ _
  rw [defs_eq]
  exact frame_any (F := Bits) m ρ

/-- The same of the kernel over the extended reals. -/
theorem frame_ideal : Cert.quiescent_KernelIdeal := fun m ρ _ => frame_any (F := Ideal) m ρ

/-- The reference over the extended reals terminates without fault, its arguments unchanged; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Math.lean ====
/-
  The mathematics of the layer over the extended reals, on one row: the softmax of finite scores is a positive
  real at every expert, and the sum over all eight experts of the gated products is the sum over the two chosen.
-/
module

public import Idealize.ShloMosaic.PureOps.Ideal

@[expose] public section

noncomputable section

namespace Cert.Moe

open Idealize.ShloMosaic

/-- A score: a row of the input against a column of the router's weights. -/
def score (x : Fin 128 → EReal) (rw : Fin 128 → Fin 8 → EReal) (e : Fin 8) : EReal := ∑ k, x k * rw k e

/-- The largest of a row's eight scores, no less than `b`. -/
def top (b : EReal) (s : Fin 8 → EReal) : EReal := Finset.univ.fold max b s

/-- A row's softmax, its largest score subtracted first. -/
def soft (b : EReal) (s : Fin 8 → EReal) (e : Fin 8) : EReal :=
  Ideal.div (Ideal.exp (s e - top b s)) (∑ e', Ideal.exp (s e' - top b s))

/-- The mask of expert `a`. -/
def hot (a e : Fin 8) : EReal := if e = a then 1 else 0

/-- The layer's value for one row and output column: the experts `a` and `b`, each weighed by its share. -/
def mix (p : Fin 8 → EReal) (x : Fin 128 → EReal) (W : Fin 8 → Fin 128 → EReal) (a b : Fin 8) : EReal :=
  Ideal.div (p a) (p a + p b) * ∑ i, x i * W a i + Ideal.div (p b) (p a + p b) * ∑ i, x i * W b i

/-- The finite sum of reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A non-negative real factor goes into a sum of extended reals. -/
theorem mul_sum_coe {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert j s hj ih =>
    rw [Finset.sum_insert hj, Finset.sum_insert hj, ← ih]
    exact EReal.left_distrib_of_nonneg_of_ne_top (by exact_mod_cast ha) (EReal.coe_ne_top a) _ _

/-- Finite inputs and finite weights give finite scores. -/
theorem score_real (x : Fin 128 → EReal) (rw : Fin 128 → Fin 8 → EReal) (hx : ∀ k, ∃ a : ℝ, x k = a)
    (hw : ∀ k e, ∃ a : ℝ, rw k e = a) (e : Fin 8) : ∃ a : ℝ, score x rw e = a := by
  choose f hf using hx
  choose g hg using hw
  exact ⟨∑ k, f k * g k e, by simp only [score, hf, hg, coe_sum, EReal.coe_mul]⟩

/-- The largest of eight finite scores is finite. -/
theorem top_real (s : Fin 8 → EReal) (hs : ∀ e, ∃ a : ℝ, s e = a) : ∃ M : ℝ, top ⊥ s = M := by
  have hsup : top ⊥ s = Finset.univ.sup s := rfl
  have h1 : top ⊥ s ≠ ⊤ := by
    rw [hsup]
    refine ne_of_lt ((Finset.sup_lt_iff (by simp)).mpr fun e _ => ?_)
    obtain ⟨a, ha⟩ := hs e
    rw [ha]; exact EReal.coe_lt_top a
  have h2 : top ⊥ s ≠ ⊥ := by
    rw [hsup]
    obtain ⟨a, ha⟩ := hs 0
    refine ne_of_gt (lt_of_lt_of_le ?_ (Finset.le_sup (f := s) (Finset.mem_univ 0)))
    rw [ha]; exact EReal.bot_lt_coe a
  exact ⟨(top ⊥ s).toReal, (EReal.coe_toReal h1 h2).symm⟩

/-- The softmax of finite scores is a positive real at every expert. -/
theorem soft_pos (s : Fin 8 → EReal) (hs : ∀ e, ∃ a : ℝ, s e = a) (e : Fin 8) :
    ∃ q : ℝ, 0 < q ∧ soft ⊥ s e = q := by
  obtain ⟨M, hM⟩ := top_real s hs
  choose f hf using hs
  have hexp : ∀ e, Ideal.exp (s e - top ⊥ s) = ((Real.exp (f e - M) : ℝ) : EReal) := fun e => by
    rw [hf, hM, ← EReal.coe_sub]; rfl
  have hZ : 0 < ∑ e', Real.exp (f e' - M) := Finset.sum_pos (fun _ _ => Real.exp_pos _) ⟨0, Finset.mem_univ 0⟩
  refine ⟨Real.exp (f e - M) * (1 / ∑ e', Real.exp (f e' - M)), mul_pos (Real.exp_pos _) (one_div_pos.mpr hZ), ?_⟩
  simp only [soft, hexp]
  rw [← coe_sum, Ideal.div_coe (ne_of_gt hZ), ← EReal.coe_mul]

/-- A sum against a mask is the masked entry. -/
theorem sum_hot (p : Fin 8 → EReal) (a : Fin 8) : ∑ e, p e * hot a e = p a := by
  simp [hot, mul_ite]

/-- All eight experts' gated products sum to the two chosen experts' ones: every other gate is zero. -/
theorem gated_sum (p : Fin 8 → EReal) (hp : ∀ e, ∃ q : ℝ, 0 < q ∧ p e = q) (x : Fin 128 → EReal)
    (W : Fin 8 → Fin 128 → EReal) (a b : Fin 8) :
    (∑ e, ∑ i, Ideal.div ((∑ e', p e' * hot a e') * hot a e + (∑ e', p e' * hot b e') * hot b e)
        ((∑ e', p e' * hot a e') + ∑ e', p e' * hot b e') * x i * W e i)
      = mix p x W a b := by
  obtain ⟨qa, ha, hpa⟩ := hp a
  obtain ⟨qb, hb, hpb⟩ := hp b
  have hs : qa + qb ≠ 0 := ne_of_gt (add_pos ha hb)
  have hr : 0 ≤ 1 / (qa + qb) := by positivity
  simp only [sum_hot, mix, hpa, hpb, ← EReal.coe_add]
  simp only [Ideal.div_coe hs, ← EReal.coe_mul]
  have hhot : ∀ c e : Fin 8, hot c e = ((if e = c then 1 else 0 : ℝ) : EReal) := fun c e => by
    unfold hot; split <;> simp
  have hterm : ∀ e : Fin 8, (∑ i, (((qa : EReal) * hot a e + (qb : EReal) * hot b e) * ((1 / (qa + qb) : ℝ) : EReal)) * x i * W e i)
      = (if e = a then ((qa * (1 / (qa + qb)) : ℝ) : EReal) * ∑ i, x i * W e i else 0)
        + (if e = b then ((qb * (1 / (qa + qb)) : ℝ) : EReal) * ∑ i, x i * W e i else 0) := fun e => by
    have hg : ((qa : EReal) * hot a e + (qb : EReal) * hot b e) * ((1 / (qa + qb) : ℝ) : EReal)
        = (((if e = a then qa * (1 / (qa + qb)) else 0) + (if e = b then qb * (1 / (qa + qb)) else 0) : ℝ) : EReal) := by
      rw [hhot, hhot, ← EReal.coe_mul, ← EReal.coe_mul, ← EReal.coe_add, ← EReal.coe_mul]
      congr 1
      split <;> split <;> ring
    have h0a : (0 : ℝ) ≤ if e = a then qa * (1 / (qa + qb)) else 0 := by split <;> positivity
    have h0b : (0 : ℝ) ≤ if e = b then qb * (1 / (qa + qb)) else 0 := by split <;> positivity
    rw [hg]
    simp only [mul_assoc]
    rw [← mul_sum_coe _ _ (add_nonneg h0a h0b), EReal.coe_add,
      EReal.right_distrib_of_nonneg (by exact_mod_cast h0a) (by exact_mod_cast h0b)]
    congr 1
    · split <;> simp
    · split <;> simp
  rw [Finset.sum_congr rfl fun e _ => hterm e, Finset.sum_add_distrib, Finset.sum_ite_eq' , Finset.sum_ite_eq']
  simp only [Finset.mem_univ, if_true]

end Cert.Moe

end
-- ==== Proof.KernelValue.lean ====
/-
  The kernel's output rows at an index: one row's eight gated products against all eight experts' weights.
-/
module

public import proofs.«01_k».proof.Proof.Body
public import proofs.«01_k».proof.Proof.Math
public import Idealize.ShloMosaic.Lib.Pointwise

@[expose] public section

set_option maxRecDepth 16384

noncomputable section

namespace Cert.Moe

open Idealize.ShloMosaic Idealize.SL.Sem Cert.KernelIdeal Cert.KernelIdeal.Gen

/-- The word of negative infinity is the bottom of the extended reals. -/
theorem ofBits_neg_inf : Ideal.ofBits .f32 0xFF800000#32 = ⊥ := by simp [Ideal.ofBits, Ideal.ieee]

/-- The row's softmax, as the kernel computes it. -/
theorem pay4_at (x : Vec Ideal S256x128 .f32) (rw : Vec Ideal S128x8 .f32) (r : Fin 256) (e : Fin 8) :
    k0_pay4 x rw (ix2 r e) = soft ⊥ (score (fun k => x (ix2 r k)) fun k e => rw (ix2 k e)) e := by
  rw [← ofBits_neg_inf]
  pointwise [k0_pay4, k0_pay2]
  rfl

/-- The mask's word at an expert: the widened comparison of the expert's number with the chosen one. -/
theorem hot_word (w : BitVec 32) (a : Fin 8) (ha : w = BitVec.ofNat 32 a) (e : Fin 8) :
    (FloatOps.sitofp FTy.f32 (BitVec.setWidth 32 (IntOp.cmpi CmpIPredicate.eq (BitVec.ofNat 32 e) w)) : Ideal .f32) = hot a e := by
  subst ha
  have hiff : ((BitVec.ofNat 32 e : BitVec 32) = BitVec.ofNat 32 a) ↔ e = a := by
    revert e a; decide
  by_cases h : e = a
  · subst h
    show (((_ : ℤ) : ℝ) : EReal) = _
    simp [hot, IntOp.cmpi]
  · show (((_ : ℤ) : ℝ) : EReal) = _
    have hne : ((BitVec.ofNat 32 e : BitVec 32) == BitVec.ofNat 32 a) = false :=
      beq_eq_false_iff_ne.mpr fun hc => h (hiff.mp hc)
    simp [hot, h, IntOp.cmpi, hne]

/-- The kernel's masks. -/
theorem pay5_at (i : Vec Ideal S256x1 .i32) (r : Fin 256) (a : Fin 8) (ha : i (ix2 r 0) = BitVec.ofNat 32 a) (e : Fin 8) :
    k0_pay5 (F := Ideal) i (ix2 r e) = hot a e := by
  pointwise [k0_pay5]
  exact hot_word _ a ha e
theorem pay6_at (i : Vec Ideal S256x1 .i32) (r : Fin 256) (a : Fin 8) (ha : i (ix2 r 0) = BitVec.ofNat 32 a) (e : Fin 8) :
    k0_pay6 (F := Ideal) i (ix2 r e) = hot a e := by
  pointwise [k0_pay6]
  exact hot_word _ a ha e

section
variable (x : Vec Ideal S256x128 .f32) (rw : Vec Ideal S128x8 .f32) (i0 i1 : Vec Ideal S256x1 .i32) (r : Fin 256)
  (a b : Fin 8) (ha : i0 (ix2 r 0) = BitVec.ofNat 32 a) (hb : i1 (ix2 r 0) = BitVec.ofNat 32 b)

/-- Row `r`'s softmax. -/
def probs : Fin 8 → EReal := soft ⊥ (score (fun k => x (ix2 r k)) fun k e => rw (ix2 k e))

include ha in
theorem pay7_at : k0_pay7 (F := Ideal) x rw i0 (ix2 r 0) = ∑ e, probs x rw r e * hot a e := by
  pointwise [k0_pay7]
  simp only [pay4_at, pay5_at i0 r a ha]
  rfl
include hb in
theorem pay8_at : k0_pay8 (F := Ideal) x rw i1 (ix2 r 0) = ∑ e, probs x rw r e * hot b e := by
  pointwise [k0_pay8]
  simp only [pay4_at, pay6_at i1 r b hb]
  rfl
include ha hb in
/-- The gates before their division, -/
theorem pay9_at (e : Fin 8) : k0_pay9 (F := Ideal) x rw i0 i1 (ix2 r e)
    = (∑ e', probs x rw r e' * hot a e') * hot a e + (∑ e', probs x rw r e' * hot b e') * hot b e := by
  pointwise [k0_pay9]
  rw [pay7_at x rw i0 r a ha, pay8_at x rw i1 r b hb, pay5_at i0 r a ha, pay6_at i1 r b hb]
include ha hb in
/-- and what they are divided by. -/
theorem pay10_at (e : Fin 8) : k0_pay10 (F := Ideal) x rw i0 i1 (ix2 r e)
    = (∑ e', probs x rw r e' * hot a e') + ∑ e', probs x rw r e' * hot b e' := by
  pointwise [k0_pay10]
  rw [pay7_at x rw i0 r a ha, pay8_at x rw i1 r b hb]
end

/-- The gated rows side by side: expert `e`'s 128 columns. -/
theorem pay11_at (x : FVec Ideal S256x128 .bf16) (g gs : FVec Ideal S256x8 .f32) (r : Fin 256) (e : Fin 8) (i : Fin 128)
    (k : Fin 1024) (hk : k.val = 128 * e.val + i.val) :
    k0_pay11 x g gs (ix2 r k) = Ideal.div (g (ix2 r e)) (gs (ix2 r e)) * x (ix2 r i) := by
  have hi := i.isLt
  have key : ∀ (q : Fin 8) (l : Fin 128), q = e → l = i →
      Ideal.div (g (ix2 r q)) (gs (ix2 r q)) * x (ix2 r l) = Ideal.div (g (ix2 r e)) (gs (ix2 r e)) * x (ix2 r i) := by
    rintro q l rfl rfl; rfl
  pointwise [k0_pay11]
  fin_vals e with he
  all_goals
    rw [he] at hk
    repeat rw [dif_neg (by omega)]
    first
      | (rw [dif_pos (by omega)]
         exact key _ _ (Fin.ext he.symm) (Fin.ext (by simp only; omega)))
      | exact key _ _ (Fin.ext he.symm) (Fin.ext (by simp only; omega))

/-- The kernel's output at a row and a column: the two chosen experts, each weighed by its share. -/
theorem outOf_at (x : Vec Ideal S256x128 .f32) (rw : Vec Ideal S128x8 .f32) (i0 i1 : Vec Ideal S256x1 .i32)
    (w : Fin 4 → Vec Ideal S2x128x256 .f32) (r h : Fin 256) (a b : Fin 8)
    (ha : i0 (ix2 r 0) = BitVec.ofNat 32 a) (hb : i1 (ix2 r 0) = BitVec.ofNat 32 b)
    (hx : ∀ k, ∃ q : ℝ, x (ix2 r k) = q) (hw : ∀ k e, ∃ q : ℝ, rw (ix2 k e) = q)
    (W : Fin 8 → Fin 128 → EReal)
    (hW : ∀ (o : Fin 4) (t : Fin 2) (e : Fin 8) (i : Fin 128), e.val = 2 * o.val + t.val → w o (ix3 t i h) = W e i) :
    outOf x rw i0 i1 w (ix2 r h) = mix (probs x rw r) (fun i => x (ix2 r i)) W a b := by
  rw [← gated_sum (probs x rw r) (soft_pos _ (score_real _ _ hx hw))]
  generalize hT : (fun (e : Fin 8) (i : Fin 128) =>
      Ideal.div ((∑ e', probs x rw r e' * hot a e') * hot a e + (∑ e', probs x rw r e' * hot b e') * hot b e)
        ((∑ e', probs x rw r e' * hot a e') + ∑ e', probs x rw r e' * hot b e') * x (ix2 r i) * W e i) = T
  have hterm : ∀ (o : Fin 4) (t : Fin 2) (i : Fin 128) (e : Fin 8) (i' : Fin 128) (k : Fin 1024),
      e.val = 2 * o.val + t.val → i = i' → k.val = 128 * e.val + i'.val →
      k0_pay11 (k0_pay3 x) (k0_pay9 x rw i0 i1) (k0_pay10 x rw i0 i1) (ix2 r k) * w o (ix3 t i h) = T e i' := by
    rintro o t i e _ k he rfl hk
    rw [pay11_at _ _ _ r e i k hk, pay9_at x rw i0 i1 r a b ha hb, pay10_at x rw i0 i1 r a b ha hb, hW o t e i he, ← hT]
    pointwise [k0_pay3, k0_pay2]
  have hpair : ∀ (o : Fin 4) (e e' : Fin 8) (f : Fin 256 → Fin 1024), e.val = 2 * o.val → e'.val = 2 * o.val + 1 →
      (∀ k, (f k).val = 256 * o.val + k.val) →
      (∑ k : Fin 256, k0_pay11 (k0_pay3 x) (k0_pay9 x rw i0 i1) (k0_pay10 x rw i0 i1) (ix2 r (f k))
          * w o (ix3 ⟨k.val / 128, by omega⟩ ⟨k.val % 128, by omega⟩ h)) = ∑ i, T e i + ∑ i, T e' i := by
    intro o e e' f he he' hf
    rw [Fin.sum_univ_two_halves 128 128 rfl]
    congr 1 <;> refine Finset.sum_congr rfl fun i _ => hterm _ _ _ _ _ _ ?_ (Fin.ext ?_) ?_
    all_goals have hi := i.isLt
    all_goals simp only [hf]
    all_goals omega
  show _ = ∑ e, ∑ i, (fun (e : Fin 8) (i : Fin 128) =>
      Ideal.div ((∑ e', probs x rw r e' * hot a e') * hot a e + (∑ e', probs x rw r e' * hot b e') * hot b e)
        ((∑ e', probs x rw r e' * hot a e') + ∑ e', probs x rw r e' * hot b e') * x (ix2 r i) * W e i) e i
  rw [hT, Fin.sum_univ_eight]
  pointwise [outOf, k0_pay15, k0_pay12, k0_pay13, k0_pay14, k0_pay1]
  rw [hpair 0 0 1 _ rfl rfl fun k => (Nat.zero_add _).symm, hpair 1 2 3 _ rfl rfl fun k => rfl,
    hpair 2 4 5 _ rfl rfl fun k => rfl, hpair 3 6 7 _ rfl rfl fun k => rfl]
  simp only [add_assoc]

end Cert.Moe

end
-- ==== Proof.RefGather.lean ====
/-
  The reference's two lookups at an index: a row's probability at the expert its index names, and that expert's weights.
-/
module

public import proofs.«01_k».proof.Proof.Gen.ReferenceIdeal.Run
public import Idealize.ShloMosaic.Lib.Pointwise

@[expose] public section

set_option maxRecDepth 16384

noncomputable section

namespace Cert.Moe

open Idealize.ShloMosaic Idealize.SL.Sem Cert.ReferenceIdeal Cert.ReferenceIdeal.Gen

/-- A small number's word, read signed, is the number. -/
theorem toInt_small (n : ℕ) (hn : n < 2 ^ 31) : (BitVec.ofNat 32 n).toInt.toNat = n := by
  rw [BitVec.toInt_ofNat', Int.bmod_eq_of_le (by omega) (by omega), Int.toNat_natCast]

/-- A lookup of one element by a pair of words. -/
theorem gather_pair_at {α : Type} (p : S1024x8.Idx → α) (idx : IVec S1024x2 32) (r : Fin 1024) (a : Fin 1024) (b : Fin 8)
    (ha : idx (ix2 r 0) = BitVec.ofNat 32 a) (hb : idx (ix2 r 1) = BitVec.ofNat 32 b) :
    Host.gather gather_S1024x8_S1024x2_S1024_n_01_n_n_01_1_11 p idx (ix1 r) = p (ix2 a b) := by
  unfold Host.gather
  refine congrArg p (funext fun ax => Fin.ext ?_)
  have hax : ∀ ax : Fin 2, ax ∈ [(0 : Fin 2), 1] := by decide
  show gather_S1024x8_S1024x2_S1024_n_01_n_n_01_1_11.start (ix1 r) idx ax
    + gather_S1024x8_S1024x2_S1024_n_01_n_n_01_1_11.batchCoord (ix1 r) ax
    + gather_S1024x8_S1024x2_S1024_n_01_n_n_01_1_11.offCoord (ix1 r) ax = _
  rw [GatherDims.batchCoord_eq_zero _ _ _ List.not_mem_nil,
    GatherDims.offCoord_eq_zero _ _ _ fun h => ((GatherDims.mem_sKept _ _).mp h).1 (hax ax)]
  simp only [Nat.add_zero]
  unfold GatherDims.start
  rw [dif_pos (show ax ∈ gather_S1024x8_S1024x2_S1024_n_01_n_n_01_1_11.startIndexMap from hax ax)]
  match ax with
  | ⟨0, _⟩ =>
    have hsi : gather_S1024x8_S1024x2_S1024_n_01_n_n_01_1_11.siIdx (ix1 r) ⟨0, by decide⟩ = ix2 r 0 := by
      funext c; refine Fin.ext ?_
      match c with
      | ⟨0, _⟩ => rfl
      | ⟨1, _⟩ => rfl
    refine (congrArg (fun w => min (BitVec.toInt w).toNat (1024 - 1)) ((congrArg idx hsi).trans ha)).trans ?_
    simp only
    rw [toInt_small _ (by omega)]
    exact Nat.min_eq_left (by omega)
  | ⟨1, _⟩ =>
    have hsi : gather_S1024x8_S1024x2_S1024_n_01_n_n_01_1_11.siIdx (ix1 r) ⟨1, by decide⟩ = ix2 r 1 := by
      funext c; refine Fin.ext ?_
      match c with
      | ⟨0, _⟩ => rfl
      | ⟨1, _⟩ => rfl
    refine (congrArg (fun w => min (BitVec.toInt w).toNat (8 - 1)) ((congrArg idx hsi).trans hb)).trans ?_
    simp only
    rw [toInt_small _ (by omega)]
    exact Nat.min_eq_left (by omega)

/-- A lookup of one expert's weights by its word. -/
theorem gather_expert_at {α : Type} (w : S8x128x256.Idx → α) (idx : IVec S1024x1 32) (r : Fin 1024) (i : Fin 128) (h : Fin 256)
    (b : Fin 8) (hb : idx (ix2 r 0) = BitVec.ofNat 32 b) :
    Host.gather gather_S8x128x256_S1024x1_S1024x128x256_12_0_n_n_0_1_1128256 w idx (ix3 r i h) = w (ix3 b i h) := by
  unfold Host.gather
  refine congrArg w (funext fun ax => Fin.ext ?_)
  show gather_S8x128x256_S1024x1_S1024x128x256_12_0_n_n_0_1_1128256.start (ix3 r i h) idx ax
    + gather_S8x128x256_S1024x1_S1024x128x256_12_0_n_n_0_1_1128256.batchCoord (ix3 r i h) ax
    + gather_S8x128x256_S1024x1_S1024x128x256_12_0_n_n_0_1_1128256.offCoord (ix3 r i h) ax = _
  rw [GatherDims.batchCoord_eq_zero _ _ _ List.not_mem_nil, Nat.add_zero]
  match ax with
  | ⟨0, _⟩ =>
    rw [GatherDims.offCoord_eq_zero _ _ _ fun h => ((GatherDims.mem_sKept _ _).mp h).1 (List.mem_singleton.mpr rfl)]
    unfold GatherDims.start
    rw [dif_pos (show (⟨0, _⟩ : Fin 3) ∈ gather_S8x128x256_S1024x1_S1024x128x256_12_0_n_n_0_1_1128256.startIndexMap from
      List.mem_singleton.mpr rfl)]
    have hsi : gather_S8x128x256_S1024x1_S1024x128x256_12_0_n_n_0_1_1128256.siIdx (ix3 r i h) ⟨0, by decide⟩ = ix2 r 0 := by
      funext c; refine Fin.ext ?_
      match c with
      | ⟨0, _⟩ => rfl
      | ⟨1, _⟩ => rfl
    refine (congrArg (fun w => min (BitVec.toInt w).toNat (8 - 1)) ((congrArg idx hsi).trans hb)).trans ?_
    simp only
    rw [toInt_small _ (by omega)]
    exact Nat.min_eq_left (by omega)
  | ⟨1, _⟩ =>
    have hn : ¬ ((⟨1, by decide⟩ : Fin 3) ∈ gather_S8x128x256_S1024x1_S1024x128x256_12_0_n_n_0_1_1128256.startIndexMap) :=
      fun hm => absurd (Fin.val_eq_of_eq (List.mem_singleton.mp hm)) (by decide)
    refine (congrArg (· + _) (dif_neg hn)).trans ?_
    exact Nat.zero_add _
  | ⟨2, _⟩ =>
    have hn : ¬ ((⟨2, by decide⟩ : Fin 3) ∈ gather_S8x128x256_S1024x1_S1024x128x256_12_0_n_n_0_1_1128256.startIndexMap) :=
      fun hm => absurd (Fin.val_eq_of_eq (List.mem_singleton.mp hm)) (by decide)
    refine (congrArg (· + _) (dif_neg hn)).trans ?_
    exact Nat.zero_add _

end Cert.Moe

end
-- ==== Proof.RefValue.lean ====
/-
  The reference's result at an index: the two chosen experts' values of the row, each weighed by its share.
-/
module

public import proofs.«01_k».proof.Proof.RefGather
public import proofs.«01_k».proof.Proof.Math
public import Idealize.ShloMosaic.Lib.Routing.OpsPair

@[expose] public section

set_option maxRecDepth 16384

noncomputable section

namespace Cert.Moe

open Idealize.ShloMosaic Idealize.SL.Sem Cert.ReferenceIdeal Cert.ReferenceIdeal.Gen

section
variable (x : FVec Ideal S1024x128 .f32) (rw : FVec Ideal S128x8 .f32) (idx : IVec S1024x2 32) (w : FVec Ideal S8x128x256 .f32)

/-- The rows' probabilities as the reference computes them. -/
def refProbs : FVec Ideal S1024x8 .f32 :=
  have s : FVec Ideal S1024x8 .f32 := Host.dotGeneral dot_S1024x128_S128x8_S1024x8_1_0_0_1_n_n none x rw
  have t : FVec Ideal S1024x8 .f32 := Host.exp (subf s (broadcastInDim S1024x8 ![0, 1] bcast_S1024x1_S1024x8_0_1
    (broadcastInDim S1024x1 ![0] bcast_S1024_S1024x1_0
      (Host.reduce FloatOps.maximumf s (constant S_ .f32 0xFF800000#32) reducesTo_S1024x8_S1024_d1 h_S_))))
  Host.divf t (broadcastInDim S1024x8 ![0, 1] bcast_S1024x1_S1024x8_0_1 (broadcastInDim S1024x1 ![0] bcast_S1024_S1024x1_0
    (Host.reduceAdd t (constant S_ .f32 0x00000000#32) reducesTo_S1024x8_S1024_d1 h_S_)))

/-- A word that counts from the end where it is negative, over `n` entries. -/
def wrapped (n : BitVec 32) (v : IVec S1024 32) : IVec S1024x1 32 :=
  broadcastInDim S1024x1 ![0] bcast_S1024_S1024x1_0
    (select (cmpi .slt v (broadcastInDim S1024 ![] bcast_S_S1024 (constantI S_ 32 0#32)))
      (addi v (broadcastInDim S1024 ![] bcast_S_S1024 (constantI S_ 32 n))) v)

/-- The two columns of chosen experts. -/
def choice0 : IVec S1024 32 := shapeCast S1024 (extractStridedSlice S1024x1 ![0, 0] idx slices_S1024x2_S1024x1_0_0) shapeCasts_S1024x1_S1024
def choice1 : IVec S1024 32 := shapeCast S1024 (extractStridedSlice S1024x1 ![0, 1] idx slices_S1024x2_S1024x1_0_1) shapeCasts_S1024x1_S1024

/-- The rows' probabilities at a column of choices, -/
def gateOf (v : IVec S1024 32) : FVec Ideal S1024x1 .f32 :=
  broadcastInDim S1024x1 ![0] bcast_S1024_S1024x1_0 (Host.gather gather_S1024x8_S1024x2_S1024_n_01_n_n_01_1_11 (refProbs x rw)
    (concatenate S1024x2 1 [⟨S1024x1, wrapped 1024#32 (iotaInDim S1024 32 0)⟩, ⟨S1024x1, wrapped 8#32 v⟩] concatenates_S1024x1_S1024x1_S1024x2_d1))

/-- and the rows against the chosen experts' weights. -/
def expertOf (v : IVec S1024 32) : FVec Ideal S1024x256 .f32 :=
  Host.dotGeneral dot_S1024x128_S1024x128x256_S1024x256_1_1_n_2_0_0 none x
    (Host.gather gather_S8x128x256_S1024x1_S1024x128x256_12_0_n_n_0_1_1128256 w (wrapped 8#32 v))

/-- The reference's result. -/
def refOf : FVec Ideal S1024x256 .f32 :=
  addf (mulf (broadcastInDim S1024x256 ![0, 1] bcast_S1024x1_S1024x256_0_1
      (Host.divf (gateOf x rw (choice0 idx)) (addf (gateOf x rw (choice0 idx)) (gateOf x rw (choice1 idx)))))
      (expertOf x w (choice0 idx)))
    (mulf (broadcastInDim S1024x256 ![0, 1] bcast_S1024x1_S1024x256_0_1
      (Host.divf (gateOf x rw (choice1 idx)) (addf (gateOf x rw (choice0 idx)) (gateOf x rw (choice1 idx)))))
      (expertOf x w (choice1 idx)))

end

/-- The printed result is it. -/
theorem res_eq (m : (ℓ : Loc nD τ sig) → Buf (Elt Ideal) ℓ) (c : Dev nD) :
    Value.res_main_v68 m c = refOf (m ((c.tc : Thread nD τ).loc main_arg0)) (m ((c.tc : Thread nD τ).loc main_arg1))
      (m ((c.tc : Thread nD τ).loc main_arg2)) (m ((c.tc : Thread nD τ).loc main_arg3)) := rfl

section
variable (x : FVec Ideal S1024x128 .f32) (rw : FVec Ideal S128x8 .f32) (idx : IVec S1024x2 32) (w : FVec Ideal S8x128x256 .f32)

theorem refProbs_at (r : Fin 1024) (e : Fin 8) :
    refProbs x rw (ix2 r e) = soft (Ideal.ofBits .f32 0xFF800000#32) (score (fun k => x (ix2 r k)) fun k e => rw (ix2 k e)) e := by
  pointwise [refProbs]
  rfl

/-- A small word does not wrap. -/
theorem wrapped_at (n : BitVec 32) (v : IVec S1024 32) (r : Fin 1024) (a : ℕ) (ha : a < 2 ^ 31) (hv : v (ix1 r) = BitVec.ofNat 32 a) :
    wrapped n v (ix2 r 0) = BitVec.ofNat 32 a := by
  pointwise [wrapped]
  rw [Routing.wrap_of_lt, hv]
  rw [hv, BitVec.toNat_ofNat]
  omega

theorem gateOf_at (v : IVec S1024 32) (r : Fin 1024) (e : Fin 8) (hv : v (ix1 r) = BitVec.ofNat 32 e) :
    gateOf x rw v (ix2 r 0) = refProbs x rw (ix2 r e) := by
  pointwise [gateOf]
  refine gather_pair_at _ _ r r e ?_ ?_
  · pointwise
    exact wrapped_at _ _ r r (by omega) (by pointwise)
  · pointwise
    exact wrapped_at _ _ r e (by omega) hv

theorem expertOf_at (v : IVec S1024 32) (r : Fin 1024) (h : Fin 256) (e : Fin 8) (hv : v (ix1 r) = BitVec.ofNat 32 e) :
    expertOf x w v (ix2 r h) = ∑ i : Fin 128, x (ix2 r i) * w (ix3 e i h) := by
  pointwise [expertOf]
  simp only [gather_expert_at w _ _ _ _ e (wrapped_at 8#32 v r e (by omega) hv)]

/-- The reference's result at a row and a column. -/
theorem refOf_at (r : Fin 1024) (h : Fin 256) (a b : Fin 8) (ha : idx (ix2 r 0) = BitVec.ofNat 32 a) (hb : idx (ix2 r 1) = BitVec.ofNat 32 b) :
    refOf x rw idx w (ix2 r h)
      = mix (soft (Ideal.ofBits .f32 0xFF800000#32) (score (fun k => x (ix2 r k)) fun k e => rw (ix2 k e)))
          (fun i => x (ix2 r i)) (fun e i => w (ix3 e i h)) a b := by
  have h0 : choice0 idx (ix1 r) = BitVec.ofNat 32 a := by pointwise [choice0]; exact ha
  have h1 : choice1 idx (ix1 r) = BitVec.ofNat 32 b := by pointwise [choice1]; exact hb
  pointwise [refOf]
  rw [gateOf_at x rw _ r a h0, gateOf_at x rw _ r b h1, expertOf_at x w _ r h a h0, expertOf_at x w _ r h b h1,
    refProbs_at, refProbs_at]
  rfl

end

end Cert.Moe

end
-- ==== Proof.Pre.lean ====
/-
  What the precondition says of one device's arrays: the rows and the router's weights are reals, every chosen expert is
  one of the eight.
-/
module

public import proofs.«01_k».proof.Proof.Gen.Pre_routed_KernelIdeal
public import Idealize.ShloMosaic.Lib.Pointwise
public import Idealize.ShloMosaic.Lib.ReduceAll
public import Idealize.ShloMosaic.Lib.StableHlo.Predicate

@[expose] public section

set_option maxRecDepth 16384

noncomputable section

namespace Cert.Moe

open Idealize.ShloMosaic Idealize.SL.Sem Cert.Pre_routed_KernelIdeal Cert.Pre_routed_KernelIdeal.Gen

/-- The word of infinity is the top of the extended reals. -/
theorem ofBits_inf : Ideal.ofBits .f32 0x7F800000#32 = ⊤ := by simp [Ideal.ofBits, Ideal.ieee]

/-- An extended real whose absolute value is below infinity is a real. -/
theorem real_of_abs_lt (a : EReal) (h : Ideal.cmp .olt (max a (-a)) (Ideal.ofBits .f32 0x7F800000#32) = 1#1) : ∃ q : ℝ, a = q := by
  rw [ofBits_inf] at h
  have h' : max a (-a) < ⊤ := by
    simpa [Ideal.cmp] using (StableHlo.Predicate.ofBool_eq_one_iff _).mp h
  have h1 : a ≠ ⊤ := fun e => by simp [e] at h'
  have h2 : a ≠ ⊥ := fun e => by simp [e] at h'
  exact ⟨a.toReal, (EReal.coe_toReal h1 h2).symm⟩

/-- A word that is at least zero and below eight, read signed, is one of the eight experts' numbers. -/
theorem expert_of_range (w : BitVec 32) (h0 : IntOp.cmpi .sge w 0#32 = 1#1) (h8 : IntOp.cmpi .slt w 8#32 = 1#1) :
    ∃ a : Fin 8, w = BitVec.ofNat 32 a := by
  have h0' : (0 : ℤ) ≤ w.toInt := by
    have := (StableHlo.Predicate.ofBool_eq_one_iff _).mp h0
    simpa [BitVec.sle] using this
  have h8' : w.toInt < 8 := by
    have := (StableHlo.Predicate.ofBool_eq_one_iff _).mp h8
    simpa [BitVec.slt] using this
  have hlt : w.toInt.toNat < 8 := by omega
  refine ⟨⟨w.toInt.toNat, hlt⟩, BitVec.eq_of_toInt_eq ?_⟩
  rw [BitVec.toInt_ofNat', Int.bmod_eq_of_le (by simp only; omega) (by simp only; omega)]
  simp only
  omega

/-- Two bits whose conjunction is set are set. -/
theorem both_set : ∀ c d : BitVec 1, IntOp.andi c d = 1#1 → c = 1#1 ∧ d = 1#1 := by decide

/-- Bits whose conjunction is set are all set. -/
theorem all_set {ι : Type} (s : Finset ι) (f : ι → BitVec 1) (h : Finset.fold IntOp.andi 1#1 f s = 1#1) : ∀ i ∈ s, f i = 1#1 := by
  classical
  induction s using Finset.induction_on with
  | empty => exact fun i hi => absurd hi (Finset.notMem_empty i)
  | insert a s ha ih =>
    rw [Finset.fold_insert ha] at h
    intro i hi
    rcases Finset.mem_insert.mp hi with rfl | hi
    · exact (both_set _ _ h).1
    · exact ih (both_set _ _ h).2 i hi

/-- The precondition, read on one device's arrays. -/
theorem routed_facts (x : FVec Ideal S256x128 .f32) (rw : FVec Ideal S128x8 .f32) (idx : IVec S256x2 32) (w : FVec Ideal S2x128x256 .f32)
    (h : fn (F := Ideal) x rw idx w = fun _ => 1#1) :
    (∀ r k, ∃ q : ℝ, x (ix2 r k) = q) ∧ (∀ k e, ∃ q : ℝ, rw (ix2 k e) = q) ∧ ∀ r t, ∃ a : Fin 8, idx (ix2 r t) = BitVec.ofNat 32 a := by
  have hj := fun (r : Fin 256) (t : Fin 2) => congrFun h (ix2 r t)
  pointwise [fn] at hj
  obtain ⟨hx, hw⟩ := both_set _ _ (both_set _ _ (hj 0).1).2
  refine ⟨fun r k => real_of_abs_lt _ (all_set _ _ hx (r, k) (Finset.mem_univ _)),
    fun k e => real_of_abs_lt _ (all_set _ _ hw (k, e) (Finset.mem_univ _)), fun r t => ?_⟩
  fin_cases t
  · obtain ⟨h0, h8⟩ := both_set _ _ (both_set _ _ (hj r).1).1
    exact expert_of_range _ h0 h8
  · obtain ⟨h0, h8⟩ := both_set _ _ (both_set _ _ (hj r).2).1
    exact expert_of_range _ h0 h8

end Cert.Moe

end
-- ==== Proof.Algebraic.lean ====
/-
  Over the extended reals every device's output rows are the reference's: the kernel's row at a device is the
  reference's row at that device's block, and each device's weights are its block of the reference's.
-/
module

public import proofs.«01_k».proof.Proof.Frames
public import proofs.«01_k».proof.Proof.KernelValue
public import proofs.«01_k».proof.Proof.RefValue
public import proofs.«01_k».proof.Proof.Pre
public import proofs.«01_k».proof.Proof.Gen.Pre_routed_ReferenceIdeal
public import Idealize.ShloMosaic.Lib.LayoutAt

@[expose] public section

set_option maxRecDepth 16384

noncomputable section

namespace Cert.Moe

open Idealize.ShloMosaic Idealize.SL.Sem

/-- One device's output rows are its block of the reference's result. -/
theorem out_block (X : FVec Ideal ⟨2, ![1024, 128]⟩ .f32) (rw : FVec Ideal ⟨2, ![128, 8]⟩ .f32) (I : IVec ⟨2, ![1024, 2]⟩ 32)
    (W : FVec Ideal ⟨3, ![8, 128, 256]⟩ .f32) (c : Fin 4) (i0 i1 : IVec ⟨2, ![256, 1]⟩ 32)
    (hi0 : ∀ r : Fin 256, i0 (ix2 r 0) = Layout.block ⟨2, ![256, 2]⟩ ⟨2, ![1024, 2]⟩ 0 4 c I (by decide) (ix2 r 0))
    (hi1 : ∀ r : Fin 256, i1 (ix2 r 0) = Layout.block ⟨2, ![256, 2]⟩ ⟨2, ![1024, 2]⟩ 0 4 c I (by decide) (ix2 r 1))
    (hx : ∀ (r : Fin 256) (k : Fin 128), ∃ q : ℝ, Layout.block ⟨2, ![256, 128]⟩ ⟨2, ![1024, 128]⟩ 0 4 c X (by decide) (ix2 r k) = q)
    (hw : ∀ (k : Fin 128) (e : Fin 8), ∃ q : ℝ, rw (ix2 k e) = q)
    (hI : ∀ (r : Fin 256) (t : Fin 2), ∃ a : Fin 8, Layout.block ⟨2, ![256, 2]⟩ ⟨2, ![1024, 2]⟩ 0 4 c I (by decide) (ix2 r t) = BitVec.ofNat 32 a) :
    outOf (F := Ideal) (Layout.block ⟨2, ![256, 128]⟩ ⟨2, ![1024, 128]⟩ 0 4 c X (by decide)) rw i0 i1
        (fun o => Layout.block ⟨3, ![2, 128, 256]⟩ ⟨3, ![8, 128, 256]⟩ 0 4 o W (by decide))
      = Layout.block ⟨2, ![256, 256]⟩ ⟨2, ![1024, 256]⟩ 0 4 c (refOf X rw I W) (by decide) := by
  funext j
  obtain ⟨r, h, rfl⟩ : ∃ (r h : Fin 256), j = ix2 r h := ⟨j 0, j 1, eq_ix2 j⟩
  obtain ⟨a, ha⟩ := hI r 0
  obtain ⟨b, hb⟩ := hI r 1
  have hrow : c.val * 256 + r.val < 1024 := by omega
  have hidx : ∀ (n : ℕ) (ht : Layout.Tiles ⟨2, ![256, n]⟩ ⟨2, ![1024, n]⟩ 0 4) (k : Fin n),
      ht.idx c (ix2 r k) = ix2 (⟨c.val * 256 + r.val, hrow⟩ : Fin 1024) k := fun n ht k => by
    funext d
    match d with
    | ⟨0, _⟩ => rfl
    | ⟨1, _⟩ => rfl
  rw [outOf_at _ rw i0 i1 _ r h a b ((hi0 r).trans ha) ((hi1 r).trans hb) (hx r) hw (fun e i => W (ix3 e i h))]
  · rw [Layout.block_apply, hidx,
      refOf_at X rw I W _ h a b ((congrArg I (hidx 2 _ 0)).symm.trans ha) ((congrArg I (hidx 2 _ 1)).symm.trans hb),
      ofBits_neg_inf]
    simp only [probs, Layout.block_apply, hidx]
  · intro o t e i he
    rw [Layout.block_apply]
    refine congrArg W (funext fun d => Fin.ext ?_)
    match d with
    | ⟨0, _⟩ => exact (show o.val * 2 + t.val = e.val by omega)
    | ⟨1, _⟩ => rfl
    | ⟨2, _⟩ => rfl

end Cert.Moe

namespace Cert.Proof

open Idealize.ShloMosaic Idealize.SL.Sem Cert.Moe Cert.KernelIdeal Cert.KernelIdeal.Gen

/-- The tokens' window has one block, the whole array. -/
theorem read0 (f) : (win0_0.blk (0 : Fin 1)).view.read (Elt Ideal) f = f :=
  Memref.read_access_unit_zero (Elt Ideal) main_arg0 (funext fun a => by fin_cases a <;> decide) (fun a => by fin_cases a <;> decide) f

/-- The router's window has one block, the whole array. -/
theorem read1 (f) : (win0_1.blk (0 : Fin 1)).view.read (Elt Ideal) f = f :=
  Memref.read_access_unit_zero (Elt Ideal) main_arg1 (funext fun a => by fin_cases a <;> decide) (fun a => by fin_cases a <;> decide) f

/-- The choices' window has one block, the whole array. -/
theorem read2 (f) : (win0_2.blk (0 : Fin 1)).view.read (Elt Ideal) f = f :=
  Memref.read_access_unit_zero (Elt Ideal) main_arg2 (funext fun a => by fin_cases a <;> decide) (fun a => by fin_cases a <;> decide) f

/-- The experts' window has one block, the whole array. -/
theorem read3 (f) : (win0_3.blk (0 : Fin 1)).view.read (Elt Ideal) f = f :=
  Memref.read_access_unit_zero (Elt Ideal) main_arg3 (funext fun a => by fin_cases a <;> decide) (fun a => by fin_cases a <;> decide) f

/-- The result's window has one block, the whole array. -/
theorem read4 (f) : (win0_4.blk (0 : Fin 1)).view.read (Elt Ideal) f = f :=
  Memref.read_access_unit_zero (Elt Ideal) main_v1 (funext fun a => by fin_cases a <;> decide) (fun a => by fin_cases a <;> decide) f

/-- The first column loaded is each token's first choice. -/
theorem col0_at (f) (r : Fin 256) : col0 (F := Ideal) f (ix2 r 0) = f (ix2 r 0) := by
  unfold col0
  refine congrArg f (funext fun d => Fin.ext ?_)
  match d with
  | ⟨0, _⟩ => simp
  | ⟨1, _⟩ => rfl

/-- The second column loaded is each token's second choice. -/
theorem col1_at (f) (r : Fin 256) : col1 (F := Ideal) f (ix2 r 0) = f (ix2 r 1) := by
  unfold col1
  refine congrArg f (funext fun d => Fin.ext ?_)
  match d with
  | ⟨0, _⟩ => simp
  | ⟨1, _⟩ => rfl

/-- The kernel and the reference compute one value, each device holding its block of it. -/
theorem algebraic : Cert.algebraic_KernelIdeal_ReferenceIdeal_pre_routed_KernelIdeal := by
  intro m ρ m' ρ' hpre hagree
  refine ⟨Cert.ReferenceIdeal.Value.res_main_v68 m' 0, ?_, ?_⟩
  · refine (θ_run defs _ _).mono (fun _ h c => ⟨(h.1 c (4 : Fin 5)).trans ?_, args_kept m ρ c h.1⟩) (run_main m ρ)
    obtain ⟨hx, hw, hI⟩ := routed_facts _ _ _ _ (hpre c)
    have ho := finalA_out m ρ c
    rw [read4] at ho
    refine ho.trans ?_
    have hW : (wstg m ρ : Fin 4 → _) = fun o => Layout.block ⟨3, ![2, 128, 256]⟩ ⟨3, ![8, 128, 256]⟩ 0 4 o
        (m' (((0 : Dev Cert.ReferenceIdeal.nD).tc : Thread _ Cert.ReferenceIdeal.τ).loc Cert.ReferenceIdeal.main_arg3)) (by decide) :=
      funext fun o => (read3 _).trans (hagree o).2.2.2
    have hX : xstg m ρ c = _ := (read0 _).trans (hagree c).1
    have hR : rstg m ρ c = _ := (read1 _).trans (hagree c).2.1
    have hJ : istg m ρ c = _ := (read2 _).trans (hagree c).2.2.1
    rw [(hagree c).1] at hx
    rw [(hagree c).2.1] at hw
    rw [(hagree c).2.2.1] at hI
    rw [res_eq]
    unfold outAt
    rw [hW, hX, hR, hJ]
    exact out_block _ _ _ _ c _ _ (fun r => col0_at _ r) (fun r => col1_at _ r) hx hw hI
  · exact (θ_run Cert.ReferenceIdeal.defs _ _).mono (fun _ h => h 0) (Cert.ReferenceIdeal.Value.run m' ρ')

/-- The idealized kernel's frame, under the precondition too. -/
theorem frame_ideal_routed : Cert.quiescent_KernelIdeal_pre_routed_KernelIdeal := fun m ρ _ => frame_ideal m ρ trivial

/-- The reference's frame, under the precondition too. -/
theorem frame_reference_routed : Cert.quiescent_ReferenceIdeal_pre_routed_ReferenceIdeal := fun m ρ _ => frame_reference m ρ trivial

end Cert.Proof

end
-- ==== Proof.lean ====
/-
  The certificate of the top-2 mixture of experts on four devices: the three frames, the printed kernel against its
  idealization, and the value against the reference.
-/
module

public import proofs.«01_k».proof.Defs
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Algebraic

@[expose] public section

namespace Cert.Proof

/-- Every claim of the certificate. -/
theorem claim : Cert.Claim :=
  ⟨Cert.Kernel.Gen.facts, Cert.KernelIdeal.Gen.facts, Cert.ReferenceIdeal.Gen.facts, Cert.Pre_routed_KernelIdeal.Gen.facts,
    Cert.Pre_routed_ReferenceIdeal.Gen.facts, frame_kernel, frame_ideal, frame_ideal_routed, frame_reference,
    frame_reference_routed, trivial, algebraic⟩

end Cert.Proof
